-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S4x1024x8x128 : Shape := ⟨4, ![4, 1024, 8, 128]⟩
abbrev S4x4x64x1024 : Shape := ⟨4, ![4, 4, 64, 1024]⟩
abbrev S2x4 : Shape := ⟨2, ![2, 4]⟩
abbrev S4x3 : Shape := ⟨2, ![4, 3]⟩
abbrev S1x1 : Shape := ⟨2, ![1, 1]⟩
abbrev S_ : Shape := ⟨0, ![]⟩
abbrev S1x64x8x128 : Shape := ⟨4, ![1, 64, 8, 128]⟩
abbrev S64x8x128 : Shape := ⟨3, ![64, 8, 128]⟩
abbrev S256x1024 : Shape := ⟨2, ![256, 1024]⟩
abbrev S64x1024 : Shape := ⟨2, ![64, 1024]⟩
abbrev S64x128 : Shape := ⟨2, ![64, 128]⟩
abbrev S1x1024x1x128 : Shape := ⟨4, ![1, 1024, 1, 128]⟩
abbrev S1024x128 : Shape := ⟨2, ![1024, 128]⟩
abbrev S64 : Shape := ⟨1, ![64]⟩
abbrev S64x1 : Shape := ⟨2, ![64, 1]⟩
abbrev S1x1x64x1024 : Shape := ⟨4, ![1, 1, 64, 1024]⟩
abbrev S1x64x1024 : Shape := ⟨3, ![1, 64, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x1024x8x128, .f32⟩
  | .local _ .vmem, ⟨5, _⟩ => ⟨S4x1024x8x128, .f32⟩
  | .local _ .vmem, ⟨6, _⟩ => ⟨S4x4x64x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_137 : BitVec 32 := 0#32
  let c8_i32 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.muli c8_i32 v2
  let c0_i32_138 : BitVec 32 := 0#32
  ![0, 0, v9.toNat, 0]
def k0_off2 (d0 : Dev nD) : Fin 4 → Nat :=
  let c0_i32_148 : BitVec 32 := 0#32
  let c256_i32 : BitVec 32 := 256#32
  let c8_i32_5 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.muli c8_i32_5 v2
  let c0_i32_154 : BitVec 32 := 0#32
  ![0, 256, v11.toNat, 0]
def k0_off3 (d0 : Dev nD) : Fin 4 → Nat :=
  let c0_i32_164 : BitVec 32 := 0#32
  let c512_i32 : BitVec 32 := 512#32
  let c8_i32_7 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.muli c8_i32_7 v2
  let c0_i32_170 : BitVec 32 := 0#32
  ![0, 512, v13.toNat, 0]
def k0_off4 (d0 : Dev nD) : Fin 4 → Nat :=
  let c0_i32_180 : BitVec 32 := 0#32
  let c768_i32 : BitVec 32 := 768#32
  let c8_i32_9 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.muli c8_i32_9 v2
  let c0_i32_186 : BitVec 32 := 0#32
  ![0, 768, v15.toNat, 0]
def k0_off5 (d0 : Dev nD) : Fin 4 → Nat :=
  let c0_i32_196 : BitVec 32 := 0#32
  let c1024_i32 : BitVec 32 := 1024#32
  let c8_i32_11 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.muli c8_i32_11 v2
  let c0_i32_203 : BitVec 32 := 0#32
  ![0, 1024, v17.toNat, 0]
def k0_off6 (d0 : Dev nD) : Fin 4 → Nat :=
  let c0_i32_213 : BitVec 32 := 0#32
  let c1280_i32 : BitVec 32 := 1280#32
  let c8_i32_13 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.muli c8_i32_13 v2
  let c0_i32_219 : BitVec 32 := 0#32
  ![0, 1280, v19.toNat, 0]
def k0_off7 (d0 : Dev nD) : Fin 4 → Nat :=
  let c0_i32_229 : BitVec 32 := 0#32
  let c1536_i32 : BitVec 32 := 1536#32
  let c8_i32_15 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v21 : BitVec 32 := Scalar.muli c8_i32_15 v2
  let c0_i32_235 : BitVec 32 := 0#32
  ![0, 1536, v21.toNat, 0]
def k0_off8 (d0 : Dev nD) : Fin 4 → Nat :=
  let c0_i32_245 : BitVec 32 := 0#32
  let c1792_i32 : BitVec 32 := 1792#32
  let c8_i32_17 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v23 : BitVec 32 := Scalar.muli c8_i32_17 v2
  let c0_i32_251 : BitVec 32 := 0#32
  ![0, 1792, v23.toNat, 0]
def k0_off9 (d0 : Dev nD) : Fin 4 → Nat :=
  let c0_i32_261 : BitVec 32 := 0#32
  let c2048_i32 : BitVec 32 := 2048#32
  let c8_i32_19 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.muli c8_i32_19 v2
  let c0_i32_268 : BitVec 32 := 0#32
  ![0, 2048, v25.toNat, 0]
def k0_off10 (d0 : Dev nD) : Fin 4 → Nat :=
  let c0_i32_278 : BitVec 32 := 0#32
  let c2304_i32 : BitVec 32 := 2304#32
  let c8_i32_21 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : BitVec 32 := Scalar.muli c8_i32_21 v2
  let c0_i32_284 : BitVec 32 := 0#32
  ![0, 2304, v27.toNat, 0]
def k0_off11 (d0 : Dev nD) : Fin 4 → Nat :=
  let c0_i32_294 : BitVec 32 := 0#32
  let c2560_i32 : BitVec 32 := 2560#32
  let c8_i32_23 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.muli c8_i32_23 v2
  let c0_i32_300 : BitVec 32 := 0#32
  ![0, 2560, v29.toNat, 0]
def k0_off12 (d0 : Dev nD) : Fin 4 → Nat :=
  let c0_i32_310 : BitVec 32 := 0#32
  let c2816_i32 : BitVec 32 := 2816#32
  let c8_i32_25 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : BitVec 32 := Scalar.muli c8_i32_25 v2
  let c0_i32_316 : BitVec 32 := 0#32
  ![0, 2816, v31.toNat, 0]
def k0_off13 (d0 : Dev nD) : Fin 4 → Nat :=
  let c0_i32_326 : BitVec 32 := 0#32
  let c3072_i32 : BitVec 32 := 3072#32
  let c8_i32_27 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.muli c8_i32_27 v2
  let c0_i32_333 : BitVec 32 := 0#32
  ![0, 3072, v33.toNat, 0]
def k0_off14 (d0 : Dev nD) : Fin 4 → Nat :=
  let c0_i32_343 : BitVec 32 := 0#32
  let c3328_i32 : BitVec 32 := 3328#32
  let c8_i32_29 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v35 : BitVec 32 := Scalar.muli c8_i32_29 v2
  let c0_i32_349 : BitVec 32 := 0#32
  ![0, 3328, v35.toNat, 0]
def k0_off15 (d0 : Dev nD) : Fin 4 → Nat :=
  let c0_i32_359 : BitVec 32 := 0#32
  let c3584_i32 : BitVec 32 := 3584#32
  let c8_i32_31 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v37 : BitVec 32 := Scalar.muli c8_i32_31 v2
  let c0_i32_365 : BitVec 32 := 0#32
  ![0, 3584, v37.toNat, 0]
def k0_off16 (d0 : Dev nD) : Fin 4 → Nat :=
  let c0_i32_375 : BitVec 32 := 0#32
  let c3840_i32 : BitVec 32 := 3840#32
  let c8_i32_33 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.muli c8_i32_33 v2
  let c0_i32_381 : BitVec 32 := 0#32
  ![0, 3840, v39.toNat, 0]
def k0_off17 (d0 : Dev nD) : Fin 4 → Nat :=
  let c0_i32_391 : BitVec 32 := 0#32
  let c64_i32_398 : BitVec 32 := 64#32
  let c8_i32_35 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v41 : BitVec 32 := Scalar.muli c8_i32_35 v2
  let c0_i32_399 : BitVec 32 := 0#32
  ![0, 64, v41.toNat, 0]
def k0_off18 (d0 : Dev nD) : Fin 4 → Nat :=
  let c0_i32_409 : BitVec 32 := 0#32
  let c320_i32_416 : BitVec 32 := 320#32
  let c8_i32_37 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.muli c8_i32_37 v2
  let c0_i32_417 : BitVec 32 := 0#32
  ![0, 320, v43.toNat, 0]
def k0_off19 (d0 : Dev nD) : Fin 4 → Nat :=
  let c0_i32_427 : BitVec 32 := 0#32
  let c576_i32_434 : BitVec 32 := 576#32
  let c8_i32_39 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.muli c8_i32_39 v2
  let c0_i32_435 : BitVec 32 := 0#32
  ![0, 576, v45.toNat, 0]
def k0_off20 (d0 : Dev nD) : Fin 4 → Nat :=
  let c0_i32_445 : BitVec 32 := 0#32
  let c832_i32_452 : BitVec 32 := 832#32
  let c8_i32_41 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.muli c8_i32_41 v2
  let c0_i32_453 : BitVec 32 := 0#32
  ![0, 832, v47.toNat, 0]
def k0_off21 (d0 : Dev nD) : Fin 4 → Nat :=
  let c0_i32_463 : BitVec 32 := 0#32
  let c1088_i32 : BitVec 32 := 1088#32
  let c8_i32_43 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.muli c8_i32_43 v2
  let c0_i32_470 : BitVec 32 := 0#32
  ![0, 1088, v49.toNat, 0]
def k0_off22 (d0 : Dev nD) : Fin 4 → Nat :=
  let c0_i32_480 : BitVec 32 := 0#32
  let c1344_i32 : BitVec 32 := 1344#32
  let c8_i32_45 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v51 : BitVec 32 := Scalar.muli c8_i32_45 v2
  let c0_i32_487 : BitVec 32 := 0#32
  ![0, 1344, v51.toNat, 0]
def k0_off23 (d0 : Dev nD) : Fin 4 → Nat :=
  let c0_i32_497 : BitVec 32 := 0#32
  let c1600_i32 : BitVec 32 := 1600#32
  let c8_i32_47 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v53 : BitVec 32 := Scalar.muli c8_i32_47 v2
  let c0_i32_504 : BitVec 32 := 0#32
  ![0, 1600, v53.toNat, 0]
def k0_off24 (d0 : Dev nD) : Fin 4 → Nat :=
  let c0_i32_514 : BitVec 32 := 0#32
  let c1856_i32 : BitVec 32 := 1856#32
  let c8_i32_49 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v55 : BitVec 32 := Scalar.muli c8_i32_49 v2
  let c0_i32_521 : BitVec 32 := 0#32
  ![0, 1856, v55.toNat, 0]
def k0_off25 (d0 : Dev nD) : Fin 4 → Nat :=
  let c0_i32_531 : BitVec 32 := 0#32
  let c2112_i32 : BitVec 32 := 2112#32
  let c8_i32_51 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : BitVec 32 := Scalar.muli c8_i32_51 v2
  let c0_i32_538 : BitVec 32 := 0#32
  ![0, 2112, v57.toNat, 0]
def k0_off26 (d0 : Dev nD) : Fin 4 → Nat :=
  let c0_i32_548 : BitVec 32 := 0#32
  let c2368_i32 : BitVec 32 := 2368#32
  let c8_i32_53 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v59 : BitVec 32 := Scalar.muli c8_i32_53 v2
  let c0_i32_555 : BitVec 32 := 0#32
  ![0, 2368, v59.toNat, 0]
def k0_off27 (d0 : Dev nD) : Fin 4 → Nat :=
  let c0_i32_565 : BitVec 32 := 0#32
  let c2624_i32 : BitVec 32 := 2624#32
  let c8_i32_55 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.muli c8_i32_55 v2
  let c0_i32_572 : BitVec 32 := 0#32
  ![0, 2624, v61.toNat, 0]
def k0_off28 (d0 : Dev nD) : Fin 4 → Nat :=
  let c0_i32_582 : BitVec 32 := 0#32
  let c2880_i32 : BitVec 32 := 2880#32
  let c8_i32_57 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : BitVec 32 := Scalar.muli c8_i32_57 v2
  let c0_i32_589 : BitVec 32 := 0#32
  ![0, 2880, v63.toNat, 0]
def k0_off29 (d0 : Dev nD) : Fin 4 → Nat :=
  let c0_i32_599 : BitVec 32 := 0#32
  let c3136_i32 : BitVec 32 := 3136#32
  let c8_i32_59 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v65 : BitVec 32 := Scalar.muli c8_i32_59 v2
  let c0_i32_606 : BitVec 32 := 0#32
  ![0, 3136, v65.toNat, 0]
def k0_off30 (d0 : Dev nD) : Fin 4 → Nat :=
  let c0_i32_616 : BitVec 32 := 0#32
  let c3392_i32 : BitVec 32 := 3392#32
  let c8_i32_61 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.muli c8_i32_61 v2
  let c0_i32_623 : BitVec 32 := 0#32
  ![0, 3392, v67.toNat, 0]
def k0_off31 (d0 : Dev nD) : Fin 4 → Nat :=
  let c0_i32_633 : BitVec 32 := 0#32
  let c3648_i32 : BitVec 32 := 3648#32
  let c8_i32_63 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : BitVec 32 := Scalar.muli c8_i32_63 v2
  let c0_i32_640 : BitVec 32 := 0#32
  ![0, 3648, v69.toNat, 0]
def k0_off32 (d0 : Dev nD) : Fin 4 → Nat :=
  let c0_i32_650 : BitVec 32 := 0#32
  let c3904_i32 : BitVec 32 := 3904#32
  let c8_i32_65 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.muli c8_i32_65 v2
  let c0_i32_657 : BitVec 32 := 0#32
  ![0, 3904, v71.toNat, 0]
def k0_off33 (d0 : Dev nD) : Fin 4 → Nat :=
  let c0_i32_667 : BitVec 32 := 0#32
  let c128_i32_674 : BitVec 32 := 128#32
  let c8_i32_67 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : BitVec 32 := Scalar.muli c8_i32_67 v2
  let c0_i32_675 : BitVec 32 := 0#32
  ![0, 128, v73.toNat, 0]
def k0_off34 (d0 : Dev nD) : Fin 4 → Nat :=
  let c0_i32_685 : BitVec 32 := 0#32
  let c384_i32_692 : BitVec 32 := 384#32
  let c8_i32_69 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : BitVec 32 := Scalar.muli c8_i32_69 v2
  let c0_i32_693 : BitVec 32 := 0#32
  ![0, 384, v75.toNat, 0]
def k0_off35 (d0 : Dev nD) : Fin 4 → Nat :=
  let c0_i32_703 : BitVec 32 := 0#32
  let c640_i32_710 : BitVec 32 := 640#32
  let c8_i32_71 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 32 := Scalar.muli c8_i32_71 v2
  let c0_i32_711 : BitVec 32 := 0#32
  ![0, 640, v77.toNat, 0]
def k0_off36 (d0 : Dev nD) : Fin 4 → Nat :=
  let c0_i32_721 : BitVec 32 := 0#32
  let c896_i32_728 : BitVec 32 := 896#32
  let c8_i32_73 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v79 : BitVec 32 := Scalar.muli c8_i32_73 v2
  let c0_i32_729 : BitVec 32 := 0#32
  ![0, 896, v79.toNat, 0]
def k0_off37 (d0 : Dev nD) : Fin 4 → Nat :=
  let c0_i32_739 : BitVec 32 := 0#32
  let c1152_i32 : BitVec 32 := 1152#32
  let c8_i32_75 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.muli c8_i32_75 v2
  let c0_i32_746 : BitVec 32 := 0#32
  ![0, 1152, v81.toNat, 0]
def k0_off38 (d0 : Dev nD) : Fin 4 → Nat :=
  let c0_i32_756 : BitVec 32 := 0#32
  let c1408_i32 : BitVec 32 := 1408#32
  let c8_i32_77 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v83 : BitVec 32 := Scalar.muli c8_i32_77 v2
  let c0_i32_763 : BitVec 32 := 0#32
  ![0, 1408, v83.toNat, 0]
def k0_off39 (d0 : Dev nD) : Fin 4 → Nat :=
  let c0_i32_773 : BitVec 32 := 0#32
  let c1664_i32 : BitVec 32 := 1664#32
  let c8_i32_79 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v85 : BitVec 32 := Scalar.muli c8_i32_79 v2
  let c0_i32_780 : BitVec 32 := 0#32
  ![0, 1664, v85.toNat, 0]
def k0_off40 (d0 : Dev nD) : Fin 4 → Nat :=
  let c0_i32_790 : BitVec 32 := 0#32
  let c1920_i32 : BitVec 32 := 1920#32
  let c8_i32_81 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.muli c8_i32_81 v2
  let c0_i32_797 : BitVec 32 := 0#32
  ![0, 1920, v87.toNat, 0]
def k0_off41 (d0 : Dev nD) : Fin 4 → Nat :=
  let c0_i32_807 : BitVec 32 := 0#32
  let c2176_i32 : BitVec 32 := 2176#32
  let c8_i32_83 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.muli c8_i32_83 v2
  let c0_i32_814 : BitVec 32 := 0#32
  ![0, 2176, v89.toNat, 0]
def k0_off42 (d0 : Dev nD) : Fin 4 → Nat :=
  let c0_i32_824 : BitVec 32 := 0#32
  let c2432_i32 : BitVec 32 := 2432#32
  let c8_i32_85 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.muli c8_i32_85 v2
  let c0_i32_831 : BitVec 32 := 0#32
  ![0, 2432, v91.toNat, 0]
def k0_off43 (d0 : Dev nD) : Fin 4 → Nat :=
  let c0_i32_841 : BitVec 32 := 0#32
  let c2688_i32 : BitVec 32 := 2688#32
  let c8_i32_87 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v93 : BitVec 32 := Scalar.muli c8_i32_87 v2
  let c0_i32_848 : BitVec 32 := 0#32
  ![0, 2688, v93.toNat, 0]
def k0_off44 (d0 : Dev nD) : Fin 4 → Nat :=
  let c0_i32_858 : BitVec 32 := 0#32
  let c2944_i32 : BitVec 32 := 2944#32
  let c8_i32_89 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v95 : BitVec 32 := Scalar.muli c8_i32_89 v2
  let c0_i32_865 : BitVec 32 := 0#32
  ![0, 2944, v95.toNat, 0]
def k0_off45 (d0 : Dev nD) : Fin 4 → Nat :=
  let c0_i32_875 : BitVec 32 := 0#32
  let c3200_i32 : BitVec 32 := 3200#32
  let c8_i32_91 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v97 : BitVec 32 := Scalar.muli c8_i32_91 v2
  let c0_i32_882 : BitVec 32 := 0#32
  ![0, 3200, v97.toNat, 0]
def k0_off46 (d0 : Dev nD) : Fin 4 → Nat :=
  let c0_i32_892 : BitVec 32 := 0#32
  let c3456_i32 : BitVec 32 := 3456#32
  let c8_i32_93 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v99 : BitVec 32 := Scalar.muli c8_i32_93 v2
  let c0_i32_899 : BitVec 32 := 0#32
  ![0, 3456, v99.toNat, 0]
def k0_off47 (d0 : Dev nD) : Fin 4 → Nat :=
  let c0_i32_909 : BitVec 32 := 0#32
  let c3712_i32 : BitVec 32 := 3712#32
  let c8_i32_95 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v101 : BitVec 32 := Scalar.muli c8_i32_95 v2
  let c0_i32_916 : BitVec 32 := 0#32
  ![0, 3712, v101.toNat, 0]
def k0_off48 (d0 : Dev nD) : Fin 4 → Nat :=
  let c0_i32_926 : BitVec 32 := 0#32
  let c3968_i32 : BitVec 32 := 3968#32
  let c8_i32_97 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.muli c8_i32_97 v2
  let c0_i32_933 : BitVec 32 := 0#32
  ![0, 3968, v103.toNat, 0]
def k0_off49 (d0 : Dev nD) : Fin 4 → Nat :=
  let c0_i32_943 : BitVec 32 := 0#32
  let c192_i32_950 : BitVec 32 := 192#32
  let c8_i32_99 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : BitVec 32 := Scalar.muli c8_i32_99 v2
  let c0_i32_951 : BitVec 32 := 0#32
  ![0, 192, v105.toNat, 0]
def k0_off50 (d0 : Dev nD) : Fin 4 → Nat :=
  let c0_i32_961 : BitVec 32 := 0#32
  let c448_i32_968 : BitVec 32 := 448#32
  let c8_i32_101 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.muli c8_i32_101 v2
  let c0_i32_969 : BitVec 32 := 0#32
  ![0, 448, v107.toNat, 0]
def k0_off51 (d0 : Dev nD) : Fin 4 → Nat :=
  let c0_i32_979 : BitVec 32 := 0#32
  let c704_i32_986 : BitVec 32 := 704#32
  let c8_i32_103 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v109 : BitVec 32 := Scalar.muli c8_i32_103 v2
  let c0_i32_987 : BitVec 32 := 0#32
  ![0, 704, v109.toNat, 0]
def k0_off52 (d0 : Dev nD) : Fin 4 → Nat :=
  let c0_i32_997 : BitVec 32 := 0#32
  let c960_i32_1004 : BitVec 32 := 960#32
  let c8_i32_105 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v111 : BitVec 32 := Scalar.muli c8_i32_105 v2
  let c0_i32_1005 : BitVec 32 := 0#32
  ![0, 960, v111.toNat, 0]
def k0_off53 (d0 : Dev nD) : Fin 4 → Nat :=
  let c0_i32_1015 : BitVec 32 := 0#32
  let c1216_i32 : BitVec 32 := 1216#32
  let c8_i32_107 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.muli c8_i32_107 v2
  let c0_i32_1022 : BitVec 32 := 0#32
  ![0, 1216, v113.toNat, 0]
def k0_off54 (d0 : Dev nD) : Fin 4 → Nat :=
  let c0_i32_1032 : BitVec 32 := 0#32
  let c1472_i32 : BitVec 32 := 1472#32
  let c8_i32_109 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v115 : BitVec 32 := Scalar.muli c8_i32_109 v2
  let c0_i32_1039 : BitVec 32 := 0#32
  ![0, 1472, v115.toNat, 0]
def k0_off55 (d0 : Dev nD) : Fin 4 → Nat :=
  let c0_i32_1049 : BitVec 32 := 0#32
  let c1728_i32 : BitVec 32 := 1728#32
  let c8_i32_111 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v117 : BitVec 32 := Scalar.muli c8_i32_111 v2
  let c0_i32_1056 : BitVec 32 := 0#32
  ![0, 1728, v117.toNat, 0]
def k0_off56 (d0 : Dev nD) : Fin 4 → Nat :=
  let c0_i32_1066 : BitVec 32 := 0#32
  let c1984_i32 : BitVec 32 := 1984#32
  let c8_i32_113 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.muli c8_i32_113 v2
  let c0_i32_1073 : BitVec 32 := 0#32
  ![0, 1984, v119.toNat, 0]
def k0_off57 (d0 : Dev nD) : Fin 4 → Nat :=
  let c0_i32_1083 : BitVec 32 := 0#32
  let c2240_i32 : BitVec 32 := 2240#32
  let c8_i32_115 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.muli c8_i32_115 v2
  let c0_i32_1090 : BitVec 32 := 0#32
  ![0, 2240, v121.toNat, 0]
def k0_off58 (d0 : Dev nD) : Fin 4 → Nat :=
  let c0_i32_1100 : BitVec 32 := 0#32
  let c2496_i32 : BitVec 32 := 2496#32
  let c8_i32_117 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.muli c8_i32_117 v2
  let c0_i32_1107 : BitVec 32 := 0#32
  ![0, 2496, v123.toNat, 0]
def k0_off59 (d0 : Dev nD) : Fin 4 → Nat :=
  let c0_i32_1117 : BitVec 32 := 0#32
  let c2752_i32 : BitVec 32 := 2752#32
  let c8_i32_119 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v125 : BitVec 32 := Scalar.muli c8_i32_119 v2
  let c0_i32_1124 : BitVec 32 := 0#32
  ![0, 2752, v125.toNat, 0]
def k0_off60 (d0 : Dev nD) : Fin 4 → Nat :=
  let c0_i32_1134 : BitVec 32 := 0#32
  let c3008_i32 : BitVec 32 := 3008#32
  let c8_i32_121 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v127 : BitVec 32 := Scalar.muli c8_i32_121 v2
  let c0_i32_1141 : BitVec 32 := 0#32
  ![0, 3008, v127.toNat, 0]
def k0_off61 (d0 : Dev nD) : Fin 4 → Nat :=
  let c0_i32_1151 : BitVec 32 := 0#32
  let c3264_i32 : BitVec 32 := 3264#32
  let c8_i32_123 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v129 : BitVec 32 := Scalar.muli c8_i32_123 v2
  let c0_i32_1158 : BitVec 32 := 0#32
  ![0, 3264, v129.toNat, 0]
def k0_off62 (d0 : Dev nD) : Fin 4 → Nat :=
  let c0_i32_1168 : BitVec 32 := 0#32
  let c3520_i32 : BitVec 32 := 3520#32
  let c8_i32_125 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.muli c8_i32_125 v2
  let c0_i32_1175 : BitVec 32 := 0#32
  ![0, 3520, v131.toNat, 0]
def k0_off63 (d0 : Dev nD) : Fin 4 → Nat :=
  let c0_i32_1185 : BitVec 32 := 0#32
  let c3776_i32 : BitVec 32 := 3776#32
  let c8_i32_127 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.muli c8_i32_127 v2
  let c0_i32_1192 : BitVec 32 := 0#32
  ![0, 3776, v133.toNat, 0]
def k0_off64 (d0 : Dev nD) : Fin 4 → Nat :=
  let c0_i32_1202 : BitVec 32 := 0#32
  let c4032_i32 : BitVec 32 := 4032#32
  let c8_i32_129 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v135 : BitVec 32 := Scalar.muli c8_i32_129 v2
  let c0_i32_1209 : BitVec 32 := 0#32
  ![0, 4032, v135.toNat, 0]
def k0_dev1 (d0 : Dev nD) : Nat :=
  let c0_i32_1221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1220 : BitVec 32 := 1#32
  let v906 : BitVec 32 := Scalar.muli v4 c1_i32_1220
  let v907 : BitVec 32 := Scalar.addi c0_i32_1221 v906
  v907.toNat
def k0_dev2 (d0 : Dev nD) : Nat :=
  let c0_i32_1224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1223 : BitVec 32 := 1#32
  let v908 : BitVec 32 := Scalar.muli v6 c1_i32_1223
  let v909 : BitVec 32 := Scalar.addi c0_i32_1224 v908
  v909.toNat
def k0_dev3 (d0 : Dev nD) : Nat :=
  let c0_i32_1227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1226 : BitVec 32 := 1#32
  let v910 : BitVec 32 := Scalar.muli v8 c1_i32_1226
  let v911 : BitVec 32 := Scalar.addi c0_i32_1227 v910
  v911.toNat
def k0_dev4 (d0 : Dev nD) : Nat :=
  let c0_i32_1747 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1746 : BitVec 32 := 1#32
  let v1344 : BitVec 32 := Scalar.muli v4 c1_i32_1746
  let v1345 : BitVec 32 := Scalar.addi c0_i32_1747 v1344
  v1345.toNat
def k0_dev5 (d0 : Dev nD) : Nat :=
  let c0_i32_1761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_1760 : BitVec 32 := 1#32
  let v1354 : BitVec 32 := Scalar.muli v6 c1_i32_1760
  let v1355 : BitVec 32 := Scalar.addi c0_i32_1761 v1354
  v1355.toNat
def k0_dev6 (d0 : Dev nD) : Nat :=
  let c0_i32_1775 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_1774 : BitVec 32 := 1#32
  let v1364 : BitVec 32 := Scalar.muli v8 c1_i32_1774
  let v1365 : BitVec 32 := Scalar.addi c0_i32_1775 v1364
  v1365.toNat
def k0_dev7 (d0 : Dev nD) : Nat :=
  let c0_i32_2172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2171 : BitVec 32 := 1#32
  let v1671 : BitVec 32 := Scalar.muli v4 c1_i32_2171
  let v1672 : BitVec 32 := Scalar.addi c0_i32_2172 v1671
  v1672.toNat
def k0_dev8 (d0 : Dev nD) : Nat :=
  let c0_i32_2186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2185 : BitVec 32 := 1#32
  let v1681 : BitVec 32 := Scalar.muli v6 c1_i32_2185
  let v1682 : BitVec 32 := Scalar.addi c0_i32_2186 v1681
  v1682.toNat
def k0_dev9 (d0 : Dev nD) : Nat :=
  let c0_i32_2200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2199 : BitVec 32 := 1#32
  let v1691 : BitVec 32 := Scalar.muli v8 c1_i32_2199
  let v1692 : BitVec 32 := Scalar.addi c0_i32_2200 v1691
  v1692.toNat
def k0_dev10 (d0 : Dev nD) : Nat :=
  let c0_i32_2597 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2596 : BitVec 32 := 1#32
  let v1998 : BitVec 32 := Scalar.muli v4 c1_i32_2596
  let v1999 : BitVec 32 := Scalar.addi c0_i32_2597 v1998
  v1999.toNat
def k0_dev11 (d0 : Dev nD) : Nat :=
  let c0_i32_2611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_2610 : BitVec 32 := 1#32
  let v2008 : BitVec 32 := Scalar.muli v6 c1_i32_2610
  let v2009 : BitVec 32 := Scalar.addi c0_i32_2611 v2008
  v2009.toNat
def k0_dev12 (d0 : Dev nD) : Nat :=
  let c0_i32_2625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_2624 : BitVec 32 := 1#32
  let v2018 : BitVec 32 := Scalar.muli v8 c1_i32_2624
  let v2019 : BitVec 32 := Scalar.addi c0_i32_2625 v2018
  v2019.toNat
def k0_dev13 (d0 : Dev nD) : Nat :=
  let c0_i32_3022 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_3021 : BitVec 32 := 1#32
  let v2325 : BitVec 32 := Scalar.muli v4 c1_i32_3021
  let v2326 : BitVec 32 := Scalar.addi c0_i32_3022 v2325
  v2326.toNat
def k0_dev14 (d0 : Dev nD) : Nat :=
  let c0_i32_3036 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_3035 : BitVec 32 := 1#32
  let v2335 : BitVec 32 := Scalar.muli v6 c1_i32_3035
  let v2336 : BitVec 32 := Scalar.addi c0_i32_3036 v2335
  v2336.toNat
def k0_dev15 (d0 : Dev nD) : Nat :=
  let c0_i32_3050 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_3049 : BitVec 32 := 1#32
  let v2345 : BitVec 32 := Scalar.muli v8 c1_i32_3049
  let v2346 : BitVec 32 := Scalar.addi c0_i32_3050 v2345
  v2346.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x32x256x4096 : Shape := ⟨4, ![1, 32, 256, 4096]⟩
abbrev S1x1x256x4096 : Shape := ⟨4, ![1, 1, 256, 4096]⟩
abbrev S1x32x256 : Shape := ⟨3, ![1, 32, 256]⟩
abbrev S1x32x256x1 : Shape := ⟨4, ![1, 32, 256, 1]⟩
abbrev S1x1x256x1 : Shape := ⟨4, ![1, 1, 256, 1]⟩
abbrev S1x32x128x256 : Shape := ⟨4, ![1, 32, 128, 256]⟩

abbrev nBuf : Space → Nat
  | .hbm => 137
  | .vmem => 0
  | .smem => 0
  | _ => 0

abbrev hbmTy0_0 (i : Nat) : BufTy := match i % 128 with
  | 0 => ⟨S1x256x1024, .f32⟩
  | 1 => ⟨S1024x4096, .f32⟩
  | 2 => ⟨S1x4096x32x128, .f32⟩
  | 3 => ⟨S1x4096x32x128, .f32⟩
  | 4 => ⟨S4096x1024, .f32⟩
  | 5 => ⟨S1x256x4096, .f32⟩
  | 6 => ⟨S1x256x32x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S256x4096, .i32⟩
  | 48 => ⟨S256x4096, .i32⟩
  | 49 => ⟨S256x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x4096, .i32⟩
  | 95 => ⟨S256x4096, .i32⟩
  | 96 => ⟨S256x4096, .i1⟩
  | 97 => ⟨S256x4096, .i1⟩
  | 98 => ⟨S1x32x256x4096, .f32⟩
  | 99 => ⟨S_, .f32⟩
  | 100 => ⟨S1x32x256x4096, .f32⟩
  | 101 => ⟨S1x32x256x4096, .f32⟩
  | 102 => ⟨S1x1x256x4096, .i1⟩
  | 103 => ⟨S_, .f32⟩
  | 104 => ⟨S_, .f32⟩
  | 105 => ⟨S1x32x256x4096, .i1⟩
  | 106 => ⟨S1x32x256x4096, .f32⟩
  | 107 => ⟨S1x32x256x4096, .f32⟩
  | 108 => ⟨S_, .f32⟩
  | 109 => ⟨S1x32x256, .f32⟩
  | 110 => ⟨S1x32x256x1, .f32⟩
  | 111 => ⟨S1x32x256x4096, .f32⟩
  | 112 => ⟨S1x32x256x4096, .f32⟩
  | 113 => ⟨S1x32x256x4096, .f32⟩
  | 114 => ⟨S_, .i1⟩
  | 115 => ⟨S256, .i1⟩
  | 116 => ⟨S1x1x256x1, .i1⟩
  | 117 => ⟨S_, .f32⟩
  | 118 => ⟨S1x32x256, .f32⟩
  | 119 => ⟨S1x32x256x1, .f32⟩
  | 120 => ⟨S_, .f32⟩
  | 121 => ⟨S_, .f32⟩
  | 122 => ⟨S1x32x256x1, .i1⟩
  | 123 => ⟨S1x32x256x1, .f32⟩
  | 124 => ⟨S1x32x256x1, .f32⟩
  | 125 => ⟨S1x32x256x4096, .f32⟩
  | 126 => ⟨S1x32x256x4096, .f32⟩
  | 127 => ⟨S1x1x256x1, .i1⟩
  | _ => ⟨S1x256x1024, .f32⟩

abbrev hbmTy0_1 (i : Nat) : BufTy := match i % 128 with
  | 0 => ⟨S_, .f32⟩
  | 1 => ⟨S_, .f32⟩
  | 2 => ⟨S1x32x256x4096, .i1⟩
  | 3 => ⟨S1x32x256x4096, .f32⟩
  | 4 => ⟨S1x32x256x4096, .f32⟩
  | 5 => ⟨S1x32x128x256, .f32⟩
  | 6 => ⟨S1x256x32x128, .f32⟩
  | 7 => ⟨S1x256x4096, .f32⟩
  | 8 => ⟨S1x256x1024, .f32⟩
  | _ => ⟨S1x256x1024, .f32⟩

abbrev hbmTy (i : Nat) : BufTy := match i / 128 with
  | 0 => hbmTy0_0 i
  | 1 => hbmTy0_1 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Proto.lean ====
/-
# `Proto`: the cells, the contents and the schedule of the four-device attention kernel

Each device computes, block of 64 query rows by block, its eight heads' part of the output and keeps it in slot 0 of
that block's row of its `comm` buffer; it sends the part to the three other devices, each into the slot that says how
far away the sender is. A device may write into a peer's buffer only after the peer said, on the barrier semaphore,
that it is there; it may read a slot only after the slot's receive semaphore was waited on.

Cells, per device, under the rounds library (one round each, round 0):
* the barrier cell: three duties of one unit, duty `d` paid by the device `d + 1` before it; its payload is that
  device's four slots the owner will send into, and that the receive cells of those slots are at round 0;
* twelve receive cells `(k, e)`: one duty, the whole slot `e + 1` of row `k` with the part of the device `e + 1` before;
* twelve send cells `(k, e)`: one duty, a quarter share of slot 0 of row `k` back.
The eight semaphores of the local copies of keys and values are not among them: each carries a batch of 16 copies
(the library's batches), made and drained inside the body.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Batch
public import Idealize.ShloMosaic.Lib.ShareLeaves
public import Idealize.ShloMosaic.Lib.ValueLayout
public import Idealize.ShloMosaic.Lib.Tactic

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra: the pipeline's copy, the protocol's (duties `Fin 3`), the batches' counters -/

abbrev UB : Type := URounds (GSem nD τ sig) (Fin 3)
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB UC).trans embR
instance ER_landsIn : (ER (F := F)).LandsIn (upEmb : UEmb _ 𝕄) := by unfold ER embR; infer_instance
abbrev EC : UEmb Counters (MT nD τ sig Unit (Elt F) ℕ UU ℕ) := countersEmb
instance EC_landsIn : (EC (F := F)).LandsIn (upEmb : UEmb _ 𝕄) := inferInstance

abbrev 𝒱₀ : Variants := Variants.none

variable (m : (ℓ : Loc nD τ sig) → Buf (Elt F) ℓ) (ρ : Dev nD → PrngReg)

/-! ## The devices: `pr c e` is `e + 1` after `c`, `bk c e` is `e + 1` before it -/

def pr (c : Dev nD) (e : Fin 3) : Dev nD := ⟨(c.val + e.val + 1) % 4, Nat.mod_lt _ (by decide)⟩
def bk (c : Dev nD) (e : Fin 3) : Dev nD := pr c e.rev
/-- The device whose part slot `j` holds: the device itself, or the one `j` before. -/
def srcDev (c : Dev nD) (j : Fin 4) : Dev nD := ⟨(c.val + (4 - j.val)) % 4, Nat.mod_lt _ (by decide)⟩

theorem bk_pr (c : Dev nD) (e : Fin 3) : bk (pr c e) e = c := by revert c e; decide
theorem pr_bk (c : Dev nD) (e : Fin 3) : pr (bk c e) e = c := by revert c e; decide
theorem srcDev_zero (c : Dev nD) : srcDev c 0 = c := by revert c; decide
theorem srcDev_pr (c : Dev nD) (e : Fin 3) : srcDev (pr c e) e.succ = c := by revert c e; decide
theorem pr_rev_pr (c : Dev nD) (d : Fin 3) : pr (pr c d) d.rev = c := by revert c d; decide

/-- One step around, as a permutation, per distance. -/
def around (e : Fin 3) : Dev nD ≃ Dev nD := ⟨fun c => pr c e, fun c => bk c e, fun c => bk_pr c e, fun c => pr_bk c e⟩

/-! ## The local copies: sources and destinations of keys (`s = 0`) and values (`s = 1`) -/

abbrev srcA : Fin 2 → Memref sig .tc .hbm S1x4096x32x128 .f32
  | 0 => Memref.whole main_arg2
  | 1 => Memref.whole main_arg3
abbrev dstB : Fin 2 → Memref sig .tc .vmem S4x1024x8x128 .f32
  | 0 => Memref.whole cc0_scratch0
  | 1 => Memref.whole cc0_scratch1

/-- Where block `sb` of chunk `ci` starts in the source, for device `c`. -/
abbrev sOff (c : Dev nD) (ci : Fin 4) (sb : Fin 16) : Fin 4 → Nat := ![0, 64 * (4 * sb.val + ci.val), 8 * c.val, 0]
abbrev dOff (ci : Fin 4) (sb : Fin 16) : Fin 4 → Nat := ![ci.val, 64 * sb.val, 0, 0]

theorem sOff_inb (c : Dev nD) (ci : Fin 4) (sb : Fin 16) : ∀ a, sOff c ci sb a + S1x64x8x128.size a ≤ S1x4096x32x128.size a := by
  have hc := c.isLt; have h1 := ci.isLt; have h2 := sb.isLt
  have hc : c.val < 4 := hc
  intro a
  fin_cases a
  · show 0 + 1 ≤ 1; omega
  · show 64 * (4 * sb.val + ci.val) + 64 ≤ 4096; omega
  · show 8 * c.val + 8 ≤ 32; omega
  · show 0 + 128 ≤ 128; omega
theorem dOff_inb (ci : Fin 4) (sb : Fin 16) : ∀ a, dOff ci sb a + S1x64x8x128.size a ≤ S4x1024x8x128.size a := by
  have h1 := ci.isLt; have h2 := sb.isLt
  intro a
  fin_cases a
  · show ci.val + 1 ≤ 4; omega
  · show 64 * sb.val + 64 ≤ 1024; omega
  · show 0 + 8 ≤ 8; omega
  · show 0 + 128 ≤ 128; omega

abbrev sRect (c : Dev nD) (ci : Fin 4) (sb : Fin 16) : Rect S1x4096x32x128 := Rect.unit (s := S1x4096x32x128) (sOff c ci sb) S1x64x8x128.size (sOff_inb c ci sb)
abbrev dRect (ci : Fin 4) (sb : Fin 16) : Rect S4x1024x8x128 := Rect.unit (s := S4x1024x8x128) (dOff ci sb) S1x64x8x128.size (dOff_inb ci sb)

abbrev sMem (s : Fin 2) (c : Dev nD) (ci : Fin 4) (sb : Fin 16) : Memref sig .tc .hbm S64x8x128 .f32 :=
  ((srcA s).slice (sRect c ci sb) (fun _ => rfl)).squeeze S64x8x128 squeezes_S1x64x8x128_S64x8x128
abbrev dMem (s : Fin 2) (ci : Fin 4) (sb : Fin 16) : Memref sig .tc .vmem S64x8x128 .f32 :=
  ((dstB s).slice (dRect ci sb) (fun _ => rfl)).squeeze S64x8x128 squeezes_S1x64x8x128_S64x8x128

/-- The semaphore of chunk `ci`'s key copies, and of its value copies. -/
def kvS (s : Fin 2) (ci : Fin 4) : DmaSem sig := ⟨4 + 4 * s.val + ci.val, by show _ < 36; omega⟩

abbrev KN : ℕ := (dMem 0 0 0).view.dmaCredit
theorem KN_pos : 0 < KN := View.dmaCredit_pos _ (by decide)
theorem KN_eq (s : Fin 2) (ci : Fin 4) (sb : Fin 16) : (dMem s ci sb).view.dmaCredit = KN := by
  match s with
  | 0 => rfl
  | 1 => rfl

/-- The array a device copies its keys (values) out of. -/
abbrev srcF (s : Fin 2) (c : Dev nD) : Buf (Elt F) ((srcA s).view.loc (c : Thread nD τ)) := m ((srcA s).view.loc (c : Thread nD τ))

/-- Where element `i` of a device's key (value) buffer comes from. -/
def srcIx (c : Dev nD) (i : S4x1024x8x128.Idx) : S1x4096x32x128.Idx :=
  ix4 (⟨0, by decide⟩ : Fin 1)
    (⟨64 * (4 * ((i 1).val / 64) + (i 0).val) + (i 1).val % 64, by
      have h0 : (i 0).val < 4 := (i 0).isLt; have h1 : (i 1).val < 1024 := (i 1).isLt; omega⟩ : Fin 4096)
    (⟨8 * c.val + (i 2).val, by have h2 : (i 2).val < 8 := (i 2).isLt; have hc : c.val < 4 := c.isLt; omega⟩ : Fin 32)
    (⟨(i 3).val, (i 3).isLt⟩ : Fin 128)

/-- The key (value) buffer of a device once every copy has landed. -/
def kvVal (s : Fin 2) (c : Dev nD) : S4x1024x8x128.Idx → Elt F .f32 :=
  fun i => (srcA s).view.read (Elt F) (srcF m s c) (srcIx c i)

def kvF (s : Fin 2) (c : Dev nD) : Buf (Elt F) ((dstB s).view.loc (c : Thread nD τ)) :=
  match s with
  | 0 => (kvVal m 0 c : S4x1024x8x128.Idx → Elt F .f32)
  | 1 => (kvVal m 1 c : S4x1024x8x128.Idx → Elt F .f32)

theorem kvF_read (s : Fin 2) (c : Dev nD) : (dstB s).view.read (Elt F) (kvF m s c) = kvVal m s c := by
  match s with
  | 0 => rfl
  | 1 => rfl

/-! ## The parts -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1x256x1024 .f32 := Memref.whole cc0_stg3_0
abbrev cM : Memref sig .tc .vmem S4x4x64x1024 .bf16 := Memref.whole cc0_scratch2

def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def wostg (c : Dev nD) : (cc0_stg2_0 : Ref sig .tc).ty.Contents (Elt F) :=
  (win0_2.blk (0 : Fin 1)).view.read (Elt F) (m ((c : Thread nD τ).loc main_arg4))

/-- The scaled queries of a device's heads. -/
def qv (c : Dev nD) : FVec F S256x1024 .f32 := k0_pay1 (xstg m c) (wqstg m c)

theorem hOff_inb (ci : Fin 4) (h : Fin 8) : ∀ a, (![ci.val, 0, h.val, 0] : Fin 4 → Nat) a + S1x1024x1x128.size a ≤ S4x1024x8x128.size a := by
  have h1 := ci.isLt; have h2 := h.isLt
  intro a
  fin_cases a
  · show ci.val + 1 ≤ 4; omega
  · show 0 + 1024 ≤ 1024; omega
  · show h.val + 1 ≤ 8; omega
  · show 0 + 128 ≤ 128; omega
abbrev hRect (ci : Fin 4) (h : Fin 8) : Rect S4x1024x8x128 := Rect.unit (s := S4x1024x8x128) ![ci.val, 0, h.val, 0] S1x1024x1x128.size (hOff_inb ci h)

/-- Chunk `ci`'s keys (values) of local head `h`. -/
def kvHead (s : Fin 2) (c : Dev nD) (ci : Fin 4) (h : Fin 8) : Vec F S1x1024x1x128 .f32 :=
  (dstB s).view.readAt (Elt F) (hRect ci h).toLoadRect (kvF m s c)

/-- One head's attention of a block of queries over a chunk of keys and values. -/
def headOut (qh : FVec F S64x128 .f32) (kh vh : Vec F S1x1024x1x128 .f32) : FVec F S64x128 .f32 :=
  divf (matmul dot_S64x1024_S1024x128_S64x128_1_0_0_1_n_n none
      (exp (matmul dot_S64x128_S1024x128_S64x1024_1_1_0_0_n_n none qh (shapeCast S1024x128 kh shapeCasts_S1x1024x1x128_S1024x128) (constant S64x1024 .f32 0x00000000#32)))
      (shapeCast S1024x128 vh shapeCasts_S1x1024x1x128_S1024x128) (constant S64x128 .f32 0x00000000#32))
    (broadcastTo S64x128 (shapeCast S64x1 (multiReduction .add [1] S64
      (exp (matmul dot_S64x128_S1024x128_S64x1024_1_1_0_0_n_n none qh (shapeCast S1024x128 kh shapeCasts_S1x1024x1x128_S1024x128) (constant S64x1024 .f32 0x00000000#32)))
      0x00000000#32 reduces_S64x1024_S64 (.inl rfl) rfl) shapeCasts_S64_S64x1) broadcasts_S64x1_S64x128)

theorem qSlice (ci : Fin 4) : S256x1024.Slices ![64 * ci.val, 0] S64x1024 := by revert ci; decide
theorem qhSlice (h : Fin 8) : S64x1024.Slices ![0, 128 * h.val] S64x128 := by revert h; decide

/-- Head `h`'s output for block `ci` of the queries, on device `c`. -/
def hd (c : Dev nD) (ci : Fin 4) (h : Fin 8) : FVec F S64x128 .f32 :=
  headOut (extractStridedSlice S64x128 ![0, 128 * h.val] (extractStridedSlice S64x1024 ![64 * ci.val, 0] (qv m c) (qSlice ci)) (qhSlice h))
    (kvHead m 0 c ci h) (kvHead m 1 c ci h)

/-- Device `c`'s part of block `ci` of the output: its heads side by side, times its rows of the output weights. -/
def prt (c : Dev nD) (ci : Fin 4) : Vec F S1x1x64x1024 .bf16 :=
  shapeCast S1x1x64x1024 (truncf .bf16 (matmul dot_S64x1024_S1024x1024_S64x1024_1_0_0_1_n_n none
    (concatenate S64x1024 1 [⟨S64x128, hd m c ci 0⟩, ⟨S64x128, hd m c ci 1⟩, ⟨S64x128, hd m c ci 2⟩, ⟨S64x128, hd m c ci 3⟩,
      ⟨S64x128, hd m c ci 4⟩, ⟨S64x128, hd m c ci 5⟩, ⟨S64x128, hd m c ci 6⟩, ⟨S64x128, hd m c ci 7⟩] concatenates_S64x128_S64x128_S64x128_S64x128_S64x128_S64x128_S64x128_S64x128_S64x1024_d1)
    (shapeCast S1024x1024 (wostg m c) shapeCasts_S1024x1024_S1024x1024) (constant S64x1024 .f32 0x00000000#32)) bitsLt_bf16_f32)
    shapeCasts_S64x1024_S1x1x64x1024

end Cert.KProof
-- ==== Proof.Sched.lean ====
/-
# `Sched`: the slots, the cells, the schedule of rounds, what each device owes, the levels
-/
module

public import proofs.«01_k».proof.Proof.Proto

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The slots of the exchange buffer -/

theorem slot_inb (k j : Fin 4) : ∀ a, (![k.val, j.val, 0, 0] : Fin 4 → Nat) a + S1x1x64x1024.size a ≤ S4x4x64x1024.size a := by
  have h1 := k.isLt; have h2 := j.isLt
  intro a
  fin_cases a
  · show k.val + 1 ≤ 4; omega
  · show j.val + 1 ≤ 4; omega
  · show 0 + 64 ≤ 64; omega
  · show 0 + 1024 ≤ 1024; omega

abbrev cRect (k j : Fin 4) : Rect S4x4x64x1024 := Rect.unit (s := S4x4x64x1024) ![k.val, j.val, 0, 0] S1x1x64x1024.size (slot_inb k j)
abbrev slotM (k j : Fin 4) : Memref sig .tc .vmem S64x1024 .bf16 :=
  (cM.slice (cRect k j) (fun _ => rfl)).squeeze S64x1024 squeezes_S1x1x64x1024_S64x1024

/-- What a device's exchange buffer holds when everything has arrived: slot `j` of row `k` is the part of the device `j` before. -/
def CM (c : Dev nD) : S4x4x64x1024.Idx → Elt F .bf16 :=
  fun i => prt m (srcDev c (i 1)) (i 0) (ix4 (⟨0, by decide⟩ : Fin 1) (⟨0, by decide⟩ : Fin 1) (⟨(i 2).val, (i 2).isLt⟩ : Fin 64) (⟨(i 3).val, (i 3).isLt⟩ : Fin 1024))

abbrev CMb (c : Dev nD) : Buf (Elt F) ((c : Thread nD τ).loc cc0_scratch2) := CM m c

def slotPts (c : Dev nD) (k j : Fin 4) (q : PosShare TreeShare) (f : Buf (Elt F) ((c : Thread nD τ).loc cc0_scratch2)) : sProp 𝕄 :=
  (slotM k j).view.loc (c : Thread nD τ) ↦[(slotM k j).view.set]{q} f

instance slotPts_storable (c : Dev nD) (k j : Fin 4) (q) (f) : BI.Storable (upEmb : UEmb _ 𝕄) (slotPts (F := F) c k j q f) := by
  unfold slotPts; infer_instance

abbrev SN : ℕ := (slotM 0 0).view.dmaCredit
theorem SN_pos : 0 < SN := View.dmaCredit_pos _ (by decide)
theorem SN_eq (k j : Fin 4) : (slotM k j).view.dmaCredit = SN := rfl

/-- The share of slot 0 lent to the copy to the device `e + 1` after. -/
def lendQ (e : Fin 3) : PosShare TreeShare := ShareLeaves.leaf 2 fullShare ⟨e.val, by have := e.isLt; show e.val < 2 ^ 2; omega⟩
/-- The share of slot 0 kept. -/
def keepQ : PosShare TreeShare := ShareLeaves.leaf 2 fullShare ⟨3, by decide⟩

/-! ## The cells -/

abbrev XK : Type := Fin 4 × Fin 3
abbrev XI : Type := Fin 2 × Fin 4 × Fin 3

abbrev barS : Sem sig := (SemArray.scalar (sig.barrier 0 rfl) : Sems sig S_).sem
/-- The send (`0`) and receive (`1`) semaphores. -/
def xferS (x : XI) : DmaSem sig := ⟨12 + 12 * x.1.val + 3 * x.2.1.val + x.2.2.val, by show _ < 36; omega⟩
/-- Which of them a semaphore is. -/
def xdec : SemLoc sig → Option XI
  | .reg _ => none
  | .dma q => if h : 12 ≤ q.val then
      some (⟨(q.val - 12) / 12, by have : q.val < 36 := q.isLt; omega⟩, ⟨(q.val - 12) % 12 / 3, by omega⟩, ⟨(q.val - 12) % 3, by omega⟩) else none
theorem xdec_xferS (x : XI) : xdec (.dma (xferS x)) = some x := by
  obtain ⟨t, k, e⟩ := x
  have h1 := t.isLt; have h2 := k.isLt; have h3 := e.isLt
  refine (dif_pos (show 12 ≤ 12 + 12 * t.val + 3 * k.val + e.val by omega)).trans ?_
  refine congrArg some (Prod.ext (Fin.ext ?_) (Prod.ext (Fin.ext ?_) (Fin.ext ?_)))
  · show (12 + 12 * t.val + 3 * k.val + e.val - 12) / 12 = t.val; omega
  · show (12 + 12 * t.val + 3 * k.val + e.val - 12) % 12 / 3 = k.val; omega
  · show (12 + 12 * t.val + 3 * k.val + e.val - 12) % 3 = e.val; omega

abbrev barCell (c : Dev nD) : GSem nD τ sig := ((c : Thread nD τ), .reg barS)
abbrev xCell (c : Dev nD) (x : XI) : GSem nD τ sig := ((c : Thread nD τ), .dma (xferS x))
abbrev sendCell (c : Dev nD) (x : XK) : GSem nD τ sig := xCell c (0, x)
abbrev recvCell (c : Dev nD) (x : XK) : GSem nD τ sig := xCell c (1, x)
/-- The cells of a device: `none` its barrier. -/
abbrev csem : Option XI → SemLoc sig := fun | none => .reg barS | some x => .dma (xferS x)
abbrev kcell (ck : Dev nD × Option XI) : GSem nD τ sig := ((ck.1 : Thread nD τ), csem ck.2)

theorem xfer_ne_bar (x : XI) : (SemLoc.dma (xferS x) : SemLoc sig) ≠ .reg barS := fun h => by cases h

/-! ## The schedule -/

/-- What the device whose duty `d` this is hands `c`: its four slots that `c` sends into, and that it is at round 0 of their receive cells. -/
def barPay (c : Dev nD) (d : Fin 3) : sProp 𝕄 :=
  bigSep Finset.univ fun k : Fin 4 => iprop((∃ f, slotPts (pr c d.rev) k d.rev.succ fullShare f) ∗ reached ER (recvCell (pr c d.rev) (k, d.rev)) 0)
def recvPay (c : Dev nD) (x : XK) : sProp 𝕄 := slotPts c x.1 x.2.succ fullShare (CMb m c)
def sendPay (c : Dev nD) (x : XK) : sProp 𝕄 := slotPts c x.1 0 (lendQ x.2) (CMb m c)
def xPay (c : Dev nD) (x : XI) : sProp 𝕄 := if x.1 = 0 then sendPay m c x.2 else recvPay m c x.2

instance barPay_storable (c : Dev nD) (d : Fin 3) : BI.Storable (upEmb : UEmb _ 𝕄) (barPay (F := F) c d) := by unfold barPay; infer_instance
instance recvPay_storable (c : Dev nD) (x : XK) : BI.Storable (upEmb : UEmb _ 𝕄) (recvPay m c x) := by unfold recvPay; infer_instance
instance sendPay_storable (c : Dev nD) (x : XK) : BI.Storable (upEmb : UEmb _ 𝕄) (sendPay m c x) := by unfold sendPay; infer_instance
instance xPay_storable (c : Dev nD) (x : XI) : BI.Storable (upEmb : UEmb _ 𝕄) (xPay m c x) := by unfold xPay; split <;> infer_instance

def xPayO (c : Dev nD) : Option XI → sProp 𝕄
  | none => iprop(emp)
  | some x => xPay m c x
instance xPayO_storable (c : Dev nD) (o : Option XI) : BI.Storable (upEmb : UEmb _ 𝕄) (xPayO m c o) := by
  unfold xPayO; split <;> infer_instance

/-- One round, round 0: a barrier cell has three duties of one unit, a send or receive cell the duty `0` of a slot's credit. -/
def Rd : Rounds.Schedule (GSem nD τ sig) (Fin 3) 𝕄 where
  duties g r := if r = 0 ∧ g.1.2 = .tc then (if g.2 = .reg barS then Finset.univ else if (xdec g.2).isSome then {0} else ∅) else ∅
  unitless _ := False
  amount g _ _ := if g.2 = .reg barS then 1 else SN
  payload g _ d := if g.2 = .reg barS then barPay g.1.1 d else xPayO m g.1.1 (xdec g.2)
  amount_pos g _ _ _ := by
    by_cases h : g.2 = .reg barS
    · rw [if_pos h]; exact Nat.one_pos
    · rw [if_neg h]; exact SN_pos

instance Rd_payload_storable (g : GSem nD τ sig) (r : ℕ) (d : Fin 3) : BI.Storable (upEmb : UEmb _ 𝕄) ((Rd m).payload g r d) := by
  show BI.Storable upEmb (if g.2 = .reg barS then barPay g.1.1 d else xPayO m g.1.1 (xdec g.2))
  split <;> infer_instance

section Tables
variable (c : Dev nD)

theorem duties_bar : (Rd m).duties (barCell c) 0 = Finset.univ := by
  dsimp only [Rd]; rw [if_pos ⟨rfl, rfl⟩, if_pos rfl]
theorem duties_x (x : XI) : (Rd m).duties (xCell c x) 0 = {0} := by
  dsimp only [Rd]; rw [if_pos ⟨rfl, rfl⟩, if_neg (xfer_ne_bar x), xdec_xferS]; rfl
theorem duties_later (g : GSem nD τ sig) : ∀ r, 1 ≤ r → (Rd m).duties g r = ∅ :=
  fun r hr => by dsimp only [Rd]; rw [if_neg fun h => by omega]

theorem amount_bar (d : Fin 3) : (Rd m).amount (barCell c) 0 d = 1 := by dsimp only [Rd]; exact if_pos rfl
theorem amount_x (x : XI) (d : Fin 3) : (Rd m).amount (xCell c x) 0 d = SN := by dsimp only [Rd]; exact if_neg (xfer_ne_bar x)

theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_x (x : XI) : (Rd m).expect (xCell c x) 0 = SN := by
  unfold Schedule.expect Schedule.amountOf; rw [duties_x, Finset.sum_singleton, amount_x]

theorem payload_bar (d : Fin 3) : (Rd m).payload (barCell c) 0 d = barPay c d := by dsimp only [Rd]; rw [if_pos rfl]
theorem payload_x (x : XI) (d : Fin 3) : (Rd m).payload (xCell c x) 0 d = xPay m c x := by
  dsimp only [Rd]; rw [if_neg (xfer_ne_bar x), xdec_xferS]; rfl
theorem payload_send (x : XK) (d : Fin 3) : (Rd m).payload (sendCell c x) 0 d = sendPay m c x := payload_x m c (0, x) d
theorem payload_recv (x : XK) (d : Fin 3) : (Rd m).payload (recvCell c x) 0 d = recvPay m c x :=
  (payload_x m c (1, x) d).trans (by unfold xPay; exact if_neg (show ¬ (1 : Fin 2) = 0 by decide))

theorem rest_bar : bigSep ((Rd m).duties (barCell c) 0 \ ∅) (fun d => (Rd m).payload (barCell c) 0 d)
    = bigSep Finset.univ (fun d : Fin 3 => barPay (F := F) c d) := by
  rw [Finset.sdiff_empty, duties_bar, bigSep_congr fun d _ => payload_bar m c d]
theorem rest_send (x : XK) : bigSep ((Rd m).duties (sendCell c x) 0 \ ∅) (fun d => (Rd m).payload (sendCell c x) 0 d) = sendPay m c x := by
  rw [Finset.sdiff_empty, duties_x, bigSep_singleton, payload_send]
theorem rest_recv (x : XK) : bigSep ((Rd m).duties (recvCell c x) 0 \ ∅) (fun d => (Rd m).payload (recvCell c x) 0 d) = recvPay m c x := by
  rw [Finset.sdiff_empty, duties_x, bigSep_singleton, payload_recv]

end Tables

/-! ## What each device owes; the levels -/

/-- The blocks in the order the kernel sends them. -/
def allX : List XK := [(0, 0), (0, 1), (0, 2), (1, 0), (1, 1), (1, 2), (2, 0), (2, 1), (2, 2), (3, 0), (3, 1), (3, 2)]

/-- The receive credits still owed when the blocks of `l` are still to be sent. -/
def OL (c : Dev nD) : List XK → CellTallies nD τ sig Unit
  | [] => 0
  | x :: l => OL c l + tallyAt (recvCell (pr c x.2) x) () SN
def O₂ (c : Dev nD) : CellTallies nD τ sig Unit := OL c allX + tallyAt (barCell (pr c 2)) () 1
def O₁ (c : Dev nD) : CellTallies nD τ sig Unit := O₂ c + tallyAt (barCell (pr c 1)) () 1
def O₀ (c : Dev nD) : CellTallies nD τ sig Unit := O₁ c + tallyAt (barCell (pr c 0)) () 1

def L (g : GSem nD τ sig) : Finset Unit := if g.1.2 = .tc then {()} else ∅
def xlv : Option XI → ℕ
  | none => 0
  | some x => if x.1 = 1 then 2 else 0
/-- barrier cells at 1, receive cells at 2, everything else (staging, local copies, send) at 0. -/
def lv (g : GSem nD τ sig) (_ : Unit) : ℕ := if g.2 = .reg barS then 1 else xlv (xdec g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (x : XK) : lv (recvCell c x) () = 2 := by
  dsimp only [lv]; rw [if_neg (xfer_ne_bar _), xdec_xferS]; rfl

theorem pos_add {O : CellTallies nD τ sig Unit} {g' : GSem nD τ sig} {n : ℕ} {g : GSem nD τ sig} {u : Unit}
    (h : 0 < (O + tallyAt g' () n) g u) : 0 < O g u ∨ g = g' := by
  rw [Pi.add_apply, Finsupp.add_apply, tallyAt_apply] at h
  by_cases hg : g = g' ∧ u = ()
  · exact .inr hg.1
  · rw [if_neg hg] at h; exact .inl h

theorem OL_pos {c : Dev nD} (l : List XK) {g : GSem nD τ sig} {u : Unit} (h : 0 < OL c l g u) : ∃ x : XK, g = recvCell (pr c x.2) x := by
  induction l with
  | nil => exact absurd h (Nat.lt_irrefl 0)
  | cons x l ih =>
    unfold OL at h
    rcases pos_add h with h | h
    · exact ih h
    · exact ⟨x, h⟩

theorem O₀_pos {c : Dev nD} {g : GSem nD τ sig} {u : Unit} (h : 0 < O₀ c g u) :
    (∃ x : XK, g = recvCell (pr c x.2) x) ∨ ∃ d, g = barCell (pr c d) := by
  unfold O₀ at h
  rcases pos_add h with h | h
  · unfold O₁ at h
    rcases pos_add h with h | h
    · unfold O₂ at h
      rcases pos_add h with h | h
      · exact .inl (OL_pos allX h)
      · exact .inr ⟨_, h⟩
    · exact .inr ⟨_, h⟩
  · exact .inr ⟨_, h⟩

/-- A device may wait on a cell of level `n` when all it owes is at cells above. -/
theorem mayWait_cut (c : Dev nD) (sm : SemLoc sig) (n : ℕ) (O : CellTallies nD τ sig Unit) (hsm : lv ((c : Thread nD τ), sm) () = n)
    (hO : ∀ g u, 0 < O g u → ∃ (c' : Dev nD) (s' : SemLoc sig), g = ((c' : Thread nD τ), s') ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', s', rfl, _⟩ := hO g u hg; rw [L_tc]; exact Finset.mem_singleton_self _)
    (fun p hp => by rw [Finset.mem_singleton.mp hp, hsm])
    (fun g u hg => by obtain ⟨c', s', _, h⟩ := hO g u hg; exact h)

theorem mayWait_bar (c : Dev nD) (l : List XK) : (levAts L lv : sProp 𝕄) ⊢ MayWait (c : Thread nD τ) (.reg barS) () (OL c l) :=
  mayWait_cut c _ 1 _ (lv_bar c) fun g u hg => by
    obtain ⟨x, rfl⟩ := OL_pos l hg; exact ⟨_, _, rfl, by rw [lv_recv]; decide⟩

theorem mayWait_low (c : Dev nD) (q : DmaSem sig) (hq : xdec (.dma q) = none) (l : List XK) :
    (levAts L lv : sProp 𝕄) ⊢ MayWait (c : Thread nD τ) (.dma q) () (OL c l) :=
  mayWait_cut c _ 0 _ (by dsimp only [lv]; rw [if_neg (fun h => by cases h), hq]; rfl) fun g u hg => by
    obtain ⟨x, rfl⟩ := OL_pos l hg; exact ⟨_, _, rfl, by rw [lv_recv]; decide⟩

theorem mayWait_stage (c : Dev nD) (q : DmaSem sig) (hq : xdec (.dma q) = none) (O : CellTallies nD τ sig Unit) (hO : O = O₀ c ∨ O = 0) :
    (levAts L lv : sProp 𝕄) ⊢ MayWait (c : Thread nD τ) (.dma q) () O := by
  rcases hO with rfl | rfl
  · refine mayWait_cut c _ 0 _ (by dsimp only [lv]; rw [if_neg (fun h => by cases h), hq]; rfl) fun g u hg => ?_
    rcases O₀_pos hg with ⟨x, rfl⟩ | ⟨d, rfl⟩
    · exact ⟨_, _, rfl, by rw [lv_recv]; decide⟩
    · exact ⟨_, _, rfl, by rw [lv_bar]; decide⟩
  · rw [MayWait_zero]; iintro -; iempintro

/-! ## Records: every cell's invariant, and that it has reached round 0 -/

abbrev KNames : Type := Dev nD × Option XI → ℕ

def records (K : KNames) : sProp 𝕄 :=
  iprop((bigSep Finset.univ fun ck : Dev nD × Option XI => cellInv ER (Rd m) (K ck) (kcell ck))
    ∗ bigSep Finset.univ fun ck : Dev nD × Option XI => reached ER (kcell ck) 0)
instance records_persistent (K : KNames) : BI.Persistent (records m K) := by unfold records; infer_instance

theorem inv_at (K : KNames) (ck : Dev nD × Option XI) :
    (bigSep Finset.univ fun ck : Dev nD × Option XI => (cellInv ER (Rd m) (K ck) (kcell ck) : sProp 𝕄)) ⊢ cellInv ER (Rd m) (K ck) (kcell ck) :=
  bigSep_elim (Finset.mem_univ ck)
theorem reached_at (ck : Dev nD × Option XI) :
    (bigSep Finset.univ fun ck : Dev nD × Option XI => (reached ER (kcell ck) 0 : sProp 𝕄)) ⊢ reached ER (kcell ck) 0 :=
  bigSep_elim (Finset.mem_univ ck)
theorem rec_at (K : KNames) (ck : Dev nD × Option XI) : records m K ⊢ iprop(cellInv ER (Rd m) (K ck) (kcell ck) ∗ reached ER (kcell ck) 0) := by
  unfold records
  iintro ⟨H, R⟩
  isplitl [H]
  · iapply (inv_at m K ck); iexact H
  · iapply (reached_at (F := F) ck); iexact R
theorem rec_bar (K : KNames) (c : Dev nD) : records m K ⊢ iprop(cellInv ER (Rd m) (K (c, none)) (barCell c) ∗ reached ER (barCell c) 0) :=
  rec_at m K (c, none)
theorem rec_x (K : KNames) (c : Dev nD) (x : XI) :
    records m K ⊢ iprop(cellInv ER (Rd m) (K (c, some x)) (xCell c x) ∗ reached ER (xCell c x) 0) :=
  rec_at m K (c, some x)

end Cert.KProof
-- ==== Proof.Local.lean ====
/-
# `Local`: the local copies of keys and values, one batch of 16 per chunk and array
-/
module

public import proofs.«01_k».proof.Proof.Sched

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem bsep_sep {I : Type} (s : Finset I) (Φ Ψ : I → sProp 𝕄) :
    bigSep s (fun i => iprop(Φ i ∗ Ψ i)) = iprop(bigSep s Φ ∗ bigSep s Ψ) := bigSep_sep s Φ Ψ

/-! ## The pieces -/

abbrev SBuf (s : Fin 2) (c : Dev nD) : Type := Buf (Elt F) ((srcA s).view.loc (c : Thread nD τ))
abbrev DBuf (s : Fin 2) (c : Dev nD) : Type := Buf (Elt F) ((dstB s).view.loc (c : Thread nD τ))

def sPts (s : Fin 2) (c : Dev nD) (ci : Fin 4) (sb : Fin 16) : sProp 𝕄 :=
  (sMem s c ci sb).view.loc (c : Thread nD τ) ↦[(sMem s c ci sb).view.set]{fullShare} srcF m s c
def dPts (s : Fin 2) (c : Dev nD) (ci : Fin 4) (sb : Fin 16) (f : Buf (Elt F) ((dstB s).view.loc (c : Thread nD τ))) : sProp 𝕄 :=
  (dMem s ci sb).view.loc (c : Thread nD τ) ↦[(dMem s ci sb).view.set]{fullShare} f

instance sPts_storable (s : Fin 2) (c : Dev nD) (ci : Fin 4) (sb : Fin 16) : BI.Storable (upEmb : UEmb _ 𝕄) (sPts m s c ci sb) := by
  unfold sPts; infer_instance
instance dPts_storable (s : Fin 2) (c : Dev nD) (ci : Fin 4) (sb : Fin 16) (f) : BI.Storable (upEmb : UEmb _ 𝕄) (dPts (F := F) s c ci sb f) := by
  unfold dPts; infer_instance

/-- What one copy delivers: its piece of the buffer filled, its piece of the source back. -/
def Del (s : Fin 2) (c : Dev nD) (ci : Fin 4) (t : Fin 16) : sProp 𝕄 := iprop(dPts s c ci t (kvF m s c) ∗ sPts m s c ci t)
instance Del_storable (s : Fin 2) (c : Dev nD) (ci : Fin 4) (t : Fin 16) : BI.Storable (upEmb : UEmb _ 𝕄) (Del m s c ci t) := by
  unfold Del; infer_instance

/-- Chunk `ci`'s key (value) copies with `k` of them issued and `u` waited on; `f` is what the buffer held. -/
def Q (s : Fin 2) (c : Dev nD) (ci : Fin 4) (f : Buf (Elt F) ((dstB s).view.loc (c : Thread nD τ))) (k u : ℕ) : sProp 𝕄 :=
  iprop(Transfers.Batch EC (c : Thread nD τ) (.dma (kvS s ci)) () KN (Del m s c ci) k (u * KN)
    ∗ bigSep (Transfers.pending k) fun t => iprop(sPts m s c ci t ∗ dPts s c ci t f))

/-- The chunk all there. -/
def Slab (s : Fin 2) (c : Dev nD) (ci : Fin 4) : sProp 𝕄 := bigSep Finset.univ fun t : Fin 16 => dPts s c ci t (kvF m s c)
def SrcBack (s : Fin 2) (c : Dev nD) (ci : Fin 4) : sProp 𝕄 := bigSep Finset.univ fun t : Fin 16 => sPts m s c ci t

def owesS (c : Dev nD) (O : CellTallies nD τ sig Unit) : sProp 𝕄 := iprop(∃ W, owes (c : Thread nD τ) O W)

/-! ## What lands is what the buffer is said to hold -/

theorem kv_ix (c : Dev nD) (ci : Fin 4) (sb : Fin 16) (y : S1x64x8x128.Idx) :
    srcIx c ((dRect ci sb).emb y) = (sRect c ci sb).emb y := by
  have hc := c.isLt; have h1 := ci.isLt; have h2 := sb.isLt
  have hy0 : (y 0).val < 1 := (y 0).isLt
  have hy1 : (y 1).val < 64 := (y 1).isLt
  funext a
  refine Fin.ext ?_
  fin_cases a
  · show 0 = 0 + 1 * (y 0).val; omega
  · show 64 * (4 * ((64 * sb.val + 1 * (y 1).val) / 64) + (ci.val + 1 * (y 0).val)) + (64 * sb.val + 1 * (y 1).val) % 64
      = 64 * (4 * sb.val + ci.val) + 1 * (y 1).val
    omega
  · show 8 * c.val + (0 + 1 * (y 2).val) = 8 * c.val + 1 * (y 2).val; omega
  · show 0 + 1 * (y 3).val = 0 + 1 * (y 3).val; rfl

theorem kv_read (s : Fin 2) (c : Dev nD) (ci : Fin 4) (sb : Fin 16) :
    (dMem s ci sb).view.read (Elt F) (kvF m s c) = (sMem s c ci sb).view.read (Elt F) (srcF m s c) := by
  funext y
  have h1 : (dMem s ci sb).view.read (Elt F) (kvF m s c) y
      = (dstB s).view.read (Elt F) (kvF m s c) ((dRect ci sb).emb (Shape.reshapeEquiv (squeezes_S1x64x8x128_S64x8x128).numel_eq y)) := by
    match s with
    | 0 => rfl
    | 1 => rfl
  have h2 : (sMem s c ci sb).view.read (Elt F) (srcF m s c) y
      = (srcA s).view.read (Elt F) (srcF m s c) ((sRect c ci sb).emb (Shape.reshapeEquiv (squeezes_S1x64x8x128_S64x8x128).numel_eq y)) := by
    match s with
    | 0 => rfl
    | 1 => rfl
  rw [h1, h2, kvF_read, ← kv_ix]
  rfl

/-- Writing through a view what another valuation reads through it leaves that valuation, on the view's elements. -/
theorem pts_write_read {c : Thread nD τ} {sp : Space} {sh : Shape} {e : EltTy} (v : View sig c.2.kind sp sh e) (q : PosShare TreeShare)
    (f g : Buf (Elt F) (v.loc c)) :
    (v.loc c ↦[v.set]{q} v.write (Elt F) f (v.read (Elt F) g) Finset.univ : sProp 𝕄) = v.loc c ↦[v.set]{q} g :=
  pointsTo_congr fun i hi => by
    rw [View.write_read_eq_piecewise]
    exact Finset.piecewise_eq_of_mem _ _ _ hi

theorem kv_land (s : Fin 2) (c : Dev nD) (ci : Fin 4) (sb : Fin 16) (f : Buf (Elt F) ((dstB s).view.loc (c : Thread nD τ))) :
    iprop(((dMem s ci sb).view.loc (c : Thread nD τ) ↦[(dMem s ci sb).view.set]{fullShare}
        ((dMem s ci sb).view.write (Elt F) f ((sMem s c ci sb).view.read (Elt F) (srcF m s c)) Finset.univ))
      ∗ sPts m s c ci sb) ⊢ (Del m s c ci sb : sProp 𝕄) := by
  unfold Del dPts
  rw [← kv_read m s c ci sb]
  iintro ⟨H, Hs⟩
  isplitl [H]
  · iapply (Entails.of_eq (pts_write_read (c := (c : Thread nD τ)) (dMem s ci sb).view fullShare f (kvF m s c))); iexact H
  iexact Hs

/-! ## The steps -/

theorem Q_init (s : Fin 2) (c : Dev nD) (ci : Fin 4) (f : Buf (Elt F) ((dstB s).view.loc (c : Thread nD τ))) {E : Set ℕ} :
    iprop(semVal ((c : Thread nD τ), .dma (kvS s ci)) 0 ∗ SrcBack m s c ci ∗ bigSep Finset.univ fun t : Fin 16 => dPts s c ci t f)
      ⊢ (iprop(|={E}=> Q m s c ci f 0 0) : sProp 𝕄) := by
  iintro ⟨Hv, Hs, Hd⟩
  imod (Transfers.batch_alloc' (Lvl := ℕ) (EC (F := F)) (c : Thread nD τ) () KN (Del m s c ci) (sm := .dma (kvS s ci)) (E := E)) $$ Hv with HB
  imodintro
  unfold Q SrcBack
  isplitl [HB]
  · rw [Nat.zero_mul]; iexact HB
  rw [Transfers.pending_zero]
  iapply (Entails.of_eq (bsep_sep Finset.univ (fun t => sPts m s c ci t) (fun t => dPts s c ci t f)).symm)
  isplitl [Hs]
  · iexact Hs
  iexact Hd

theorem drain_lt_gen {u n : ℕ} (hn : 0 < n) (hu : u < 15) : u * n + n < n * 16 := by
  have h : (u + 1) * n ≤ 15 * n := Nat.mul_le_mul_right n hu
  rw [Nat.succ_mul] at h
  omega
theorem drain_lt {u : ℕ} (hu : u < 15) : u * KN + KN < KN * 16 := drain_lt_gen KN_pos hu
theorem drain_eq_gen (n : ℕ) : 15 * n + n = n * 16 := by omega
theorem drain_eq : 15 * KN + KN = KN * 16 := drain_eq_gen KN

theorem KN_amt (s : Fin 2) (ci : Fin 4) (sb : Fin 16) : (dMem s ci sb).view.amount (.dma (kvS s ci)) = KN := KN_eq s ci sb
theorem xdec_kv (s : Fin 2) (ci : Fin 4) : xdec (.dma (kvS s ci)) = none := by revert s ci; decide

section Steps

theorem wp_issue {α : Type} (s : Fin 2) (c : Dev nD) (ci : Fin 4) (f : Buf (Elt F) ((dstB s).view.loc (c : Thread nD τ))) {k : ℕ} (hk : k < 16)
    {srcw : Memref sig .tc .hbm S64x8x128 .f32} {dstw : Memref sig .tc .vmem S64x8x128 .f32} {sm : SemLoc sig}
    (hs : srcw = sMem s c ci ⟨k, hk⟩) (hd : dstw = dMem s ci ⟨k, hk⟩) (hsm : sm = .dma (kvS s ci))
    {hsrc : srcw.view.WordExact} {hdst : dstw.view.WordExact} {hsem : DmaTarget.Typed .hbm sm (.here dstw : DmaTarget nD τ sig .tc .vmem S64x8x128 .f32)}
    {cont : PUnit → Prog (TpuEff nD τ sig (Elt F) Λ₀ .tc) α} {Qf : α → sProp 𝕄} :
    Q m s c ci f k 0
      ⊢ iprop((Q m s c ci f (k + 1) 0 -∗ wp frame (wpE (defs₀ (F := F)) 𝒱₀ (c : Thread nD τ) none) Set.univ (cont ⟨⟩) Qf)
          -∗ wp frame (wpE (defs₀ (F := F)) 𝒱₀ (c : Thread nD τ) none) Set.univ
              (.op (.enqueueDma srcw (.here dstw) sm hsrc hdst hsem) cont) Qf) := by
  subst hs hd hsm
  unfold Q
  rw [Transfers.bigSep_pending_step _ k hk, Nat.zero_mul]
  iintro ⟨HB, ⟨Hs, Hd⟩, Hp⟩ Hk
  unfold sPts dPts
  iapply (Transfers.wp_dmaBatch (n := 16) (EC (F := F)) 𝒱₀ (c : Thread nD τ) none (src := sMem s c ci ⟨k, hk⟩) (via := .same)
    (dst := dMem s ci ⟨k, hk⟩) (sm := .dma (kvS s ci)) (q := fullShare) (fs := srcF m s c) (Sd := (dMem s ci ⟨k, hk⟩).view.set) (fd := f)
    (D := Del m s c ci) (j := k) (u := 0) () KN
    (KN_amt s ci ⟨k, hk⟩) (Finset.Subset.refl _) hk (Nat.zero_le _)
    (kv_land m s c ci ⟨k, hk⟩ f)) $$ [HB Hs Hd]
  · isplitl [Hs]; · iexact Hs
    isplitl [Hd]; · iexact Hd
    iexact HB
  iintro HB
  iapply Hk
  isplitl [HB]; · iexact HB
  iexact Hp

theorem wp_drain {α : Type} (s : Fin 2) (c : Dev nD) (ci : Fin 4) (f : Buf (Elt F) ((dstB s).view.loc (c : Thread nD τ))) {u : ℕ} (hu : u < 15) (l : List XK)
    {sp : Space} {srcw : Memref sig .tc sp S64x8x128 .f32} {dstw : Memref sig .tc .vmem S64x8x128 .f32} {sm : DmaSem sig}
    (hN : dstw.view.dmaCredit = KN) (hsm : sm = kvS s ci)
    {hsrc : srcw.view.WordExact} {hdst : dstw.view.WordExact}
    {cont : PUnit → Prog (TpuEff nD τ sig (Elt F) Λ₀ .tc) α} {Qf : α → sProp 𝕄} :
    Q m s c ci f 16 u
      ⊢ iprop(owesS c (OL c l) -∗ levAts L lv -∗ (iprop(Q m s c ci f 16 (u + 1) ∗ owesS c (OL c l)) -∗ wp frame (wpE (defs₀ (F := F)) 𝒱₀ (c : Thread nD τ) none) Set.univ (cont ⟨⟩) Qf)
          -∗ wp frame (wpE (defs₀ (F := F)) 𝒱₀ (c : Thread nD τ) none) Set.univ (.op (.waitDma2 sm srcw dstw hsrc hdst) cont) Qf) := by
  subst hsm
  unfold Q owesS
  iintro ⟨HB, Hp⟩ ⟨%W, HO⟩ Hlev Hk
  iapply (Transfers.wp_waitBatchO (n := 16) (EC (F := F)) 𝒱₀ (c : Thread nD τ) none () hN (D := Del m s c ci) (u := u * KN)
    (drain_lt hu) (O := OL c l) (W := W)) $$ [HB HO Hlev]
  · isplitl [HB]; · iexact HB
    isplitl [HO]; · iexact HO
    iapply (mayWait_low c _ (xdec_kv s ci) l); iexact Hlev
  iintro ⟨HB, HO⟩
  iapply Hk
  isplitl [HB Hp]
  · isplitl [HB]; · rw [Nat.succ_mul]; iexact HB
    iexact Hp
  iexists _; iexact HO

theorem wp_drainLast {α : Type} (s : Fin 2) (c : Dev nD) (ci : Fin 4) (f : Buf (Elt F) ((dstB s).view.loc (c : Thread nD τ))) (l : List XK)
    {sp : Space} {srcw : Memref sig .tc sp S64x8x128 .f32} {dstw : Memref sig .tc .vmem S64x8x128 .f32} {sm : DmaSem sig}
    (hN : dstw.view.dmaCredit = KN) (hsm : sm = kvS s ci)
    {hsrc : srcw.view.WordExact} {hdst : dstw.view.WordExact}
    {cont : PUnit → Prog (TpuEff nD τ sig (Elt F) Λ₀ .tc) α} {Qf : α → sProp 𝕄} :
    Q m s c ci f 16 15
      ⊢ iprop(owesS c (OL c l) -∗ levAts L lv -∗ (iprop(Slab m s c ci ∗ SrcBack m s c ci ∗ semVal ((c : Thread nD τ), .dma (kvS s ci)) 0 ∗ owesS c (OL c l))
            -∗ wp frame (wpE (defs₀ (F := F)) 𝒱₀ (c : Thread nD τ) none) Set.univ (cont ⟨⟩) Qf)
          -∗ wp frame (wpE (defs₀ (F := F)) 𝒱₀ (c : Thread nD τ) none) Set.univ (.op (.waitDma2 sm srcw dstw hsrc hdst) cont) Qf) := by
  subst hsm
  unfold Q owesS
  iintro ⟨HB, Hp⟩ ⟨%W, HO⟩ Hlev Hk
  iapply (Transfers.wp_waitBatchLastO (n := 16) (EC (F := F)) 𝒱₀ (c : Thread nD τ) none () hN KN_pos (D := Del m s c ci) (u := 15 * KN)
    drain_eq (O := OL c l) (W := W)) $$ [HB HO Hlev]
  · isplitl [HB]; · iexact HB
    isplitl [HO]; · iexact HO
    iapply (mayWait_low c _ (xdec_kv s ci) l); iexact Hlev
  iintro ⟨HD, Hv, HO⟩
  iapply Hk
  unfold Slab SrcBack Del
  ihave HD := (Entails.of_eq (bsep_sep Finset.univ (fun t => dPts s c ci t (kvF m s c)) (fun t => sPts m s c ci t))) $$ HD
  icases HD with ⟨Hd, Hs⟩
  isplitl [Hd]; · iexact Hd
  isplitl [Hs]; · iexact Hs
  isplitl [Hv]; · iexact Hv
  iexists _; iexact HO

end Steps

end Cert.KProof
-- ==== Proof.Steps.lean ====
/-
# `Steps`: the exchange and the loads and stores, one rule per kind of step
-/
module

public import proofs.«01_k».proof.Proof.Local

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The packages -/

/-- What a device needs to send block `x.1` at distance `x.2 + 1`. -/
def A (c : Dev nD) (x : XK) : sProp 𝕄 :=
  iprop(dutyTok ER (sendCell c x) 0 0 ∗ dutyTok ER (recvCell (pr c x.2) x) 0 0 ∗ atPos ER (sendCell c x) 0 ∅ 0
    ∗ ∃ f, slotPts (pr c x.2) x.1 x.2.succ fullShare f)
def SndL (c : Dev nD) : List XK → sProp 𝕄
  | [] => iprop(emp)
  | x :: l => iprop(A c x ∗ SndL c l)
/-- What it needs to await the block of the device `x.2 + 1` before. -/
def B (c : Dev nD) (x : XK) : sProp 𝕄 := iprop(atPos ER (recvCell c x) 0 ∅ 0 ∗ cred (tallyAt (recvCell c x) () SN))
def RcvL (c : Dev nD) : List XK → sProp 𝕄
  | [] => iprop(emp)
  | x :: l => iprop(B c x ∗ RcvL c l)
/-- What it needs to await its own send. -/
def C (c : Dev nD) (x : XK) : sProp 𝕄 := iprop(atPos ER (sendCell c x) 0 ∅ 0 ∗ cred (tallyAt (sendCell c x) () SN))

/-- What a device hands the device `d + 1` after it at the barrier: its slots that device's blocks land in. -/
def Give (c : Dev nD) (d : Fin 3) : sProp 𝕄 := bigSep Finset.univ fun k : Fin 4 => iprop(∃ f, slotPts (F := F) c k d.rev.succ fullShare f)

theorem pers_each {I : Type} [DecidableEq I] (S : Finset I) {R : sProp 𝕄} [BI.Persistent R] {Ψ : I → sProp 𝕄} (h : ∀ i ∈ S, R ⊢ Ψ i) : R ⊢ bigSep S Ψ :=
  (BI.bigSep_of_persistent S R).trans (bigSep_mono h)

theorem give_pay (K : KNames) (c : Dev nD) (d : Fin 3) : iprop(records m K ∗ Give (F := F) c d) ⊢ barPay (pr c d) d := by
  unfold barPay Give
  rw [pr_rev_pr, bsep_sep]
  iintro ⟨#HR, HG⟩
  isplitl [HG]; · iexact HG
  iapply (pers_each (Ψ := fun k : Fin 4 => reached ER (recvCell c (k, d.rev)) 0) Finset.univ (R := records m K)
    (fun k _ => (rec_x m K c (1, k, d.rev)).trans (by iintro ⟨-, H⟩; iexact H)))
  iexact HR

theorem wp_sig {α : Type} (K : KNames) (c : Dev nD) (d : Fin 3) (O : CellTallies nD τ sig Unit) {n : Dev nD} (hn : n = pr c d) {sem : Sem sig} (hsem : sem = barS)
    {cont : PUnit → Prog (TpuEff nD τ sig (Elt F) Λ₀ .tc) α} {Qf : α → sProp 𝕄} :
    iprop(records m K ∗ owesS c (O + tallyAt (barCell (pr c d)) () 1) ∗ dutyTok ER (barCell (pr c d)) 0 d ∗ Give c d)
      ⊢ iprop((owesS c O -∗ wp frame (wpE (defs₀ (F := F)) 𝒱₀ (c : Thread nD τ) none) Set.univ (cont ⟨⟩) Qf) -∗ wp frame (wpE (defs₀ (F := F)) 𝒱₀ (c : Thread nD τ) none) Set.univ (.op (.semSignal (Dev.tc n : Thread nD τ) sem (BitVec.toInt 1#32)) cont) Qf) := by
  subst hn hsem
  unfold owesS
  iintro ⟨#HR, ⟨%W, HO⟩, HT, HG⟩ Hk
  ihave #HB := (rec_bar m K (pr c d)) $$ HR
  icases HB with ⟨HI, Hr⟩
  iapply (Rounds.wp_signal 𝒱₀ ER (Rd m) (c : Thread nD τ) none (dst := (pr c d : Thread nD τ)) (κ := K (pr c d, none)) (r := 0)
      (d := d) (by rw [duties_bar]; exact Finset.mem_univ _) ((amount_bar m (pr c d) d).trans (by decide)) () O rfl (W := W)) $$ [HO HT HG]
  · isplitr; · iexact HI
    isplitl [HO]; · iexact HO
    isplitl [HT]; · iexact HT
    isplitl [HG]
    · rw [payload_bar]; iapply (give_pay m K c d); isplitr; · iexact HR
      iexact HG
    iexact Hr
  iintro HO
  iapply Hk
  iexists _; iexact HO

theorem wp_bar {α : Type} (K : KNames) (c : Dev nD) (l : List XK) {sem : Sem sig} (hsem : sem = barS)
    {cont : PUnit → Prog (TpuEff nD τ sig (Elt F) Λ₀ .tc) α} {Qf : α → sProp 𝕄} :
    iprop(records m K ∗ levAts L lv ∗ owesS c (OL c l) ∗ cred (tallyAt (barCell c) () 3) ∗ atPos ER (barCell c) 0 ∅ 0)
      ⊢ iprop((iprop(owesS c (OL c l) ∗ (bigSep Finset.univ fun d : Fin 3 => barPay (F := F) c d) ∗ semVal (barCell c) 0) -∗ wp frame (wpE (defs₀ (F := F)) 𝒱₀ (c : Thread nD τ) none) Set.univ (cont ⟨⟩) Qf)
        -∗ wp frame (wpE (defs₀ (F := F)) 𝒱₀ (c : Thread nD τ) none) Set.univ (.op (.semWait sem (BitVec.toInt 3#32)) cont) Qf) := by
  subst hsem
  unfold owesS
  iintro ⟨#HR, #Hlev, ⟨%W, HO⟩, HC, Hat⟩ Hk
  ihave #HB := (rec_bar m K c) $$ HR
  icases HB with ⟨HI, Hr⟩
  iapply (Rounds.wp_wait_rest_token 𝒱₀ ER (Rd m) (c : Thread nD τ) none (κ := K (c, none)) (sm := .reg barS) (k' := 3)
      (wpE_semWait_eq 𝒱₀ (c : Thread nD τ) none Set.univ) (Set.mem_univ _) () (O := OL c l) (W := W) (R := 0) (m := 0) (T := ∅)
      ((expect_bar m c).symm)) $$ [HC HO Hat]
  · isplitr; · iexact HI
    isplitl [HC]; · iexact HC
    isplitl [HO]; · iexact HO
    isplitr; · iapply (mayWait_bar c l); iexact Hlev
    iexact Hat
  rw [rest_bar]
  iintro ⟨HO, Hat, -, HP⟩
  imod (Rounds.cell_close ER (Rd m) (Set.mem_univ (K (c, none))) (fun h => h) (R := 0 + 1) (duties_later m (barCell c))) $$ [Hat] with HZ
  · isplitr; · iexact HI
    iexact Hat
  iapply Hk
  isplitl [HO]; · iexists _; iexact HO
  isplitl [HP]; · iexact HP
  iexact HZ

/-- What lands in slot `e + 1` of the device `e + 1` after is what that slot is said to hold. -/
theorem slot_read (c : Dev nD) (k : Fin 4) (e : Fin 3) :
    (slotM k e.succ).view.read (Elt F) (CMb m (pr c e)) = (slotM k 0).view.read (Elt F) (CMb m c) := by
  have key : ∀ (c' : Dev nD) (j : Fin 4) (y : S1x1x64x1024.Idx), CM m c' ((cRect k j).emb y)
      = prt m (srcDev c' j) k (ix4 (⟨0, by decide⟩ : Fin 1) (⟨0, by decide⟩ : Fin 1) (⟨(y 2).val, (y 2).isLt⟩ : Fin 64) (⟨(y 3).val, (y 3).isLt⟩ : Fin 1024)) := by
    intro c' j y
    have h0 : (y 0).val < 1 := (y 0).isLt
    have h1 : (y 1).val < 1 := (y 1).isLt
    have e0 : (cRect k j).emb y 0 = k := Fin.ext (by show k.val + 1 * (y 0).val = k.val; omega)
    have e1 : (cRect k j).emb y 1 = j := Fin.ext (by show j.val + 1 * (y 1).val = j.val; omega)
    have e2 : (⟨((cRect k j).emb y 2).val, ((cRect k j).emb y 2).isLt⟩ : Fin 64) = ⟨(y 2).val, (y 2).isLt⟩ := Fin.ext (by show 0 + 1 * (y 2).val = (y 2).val; omega)
    have e3 : (⟨((cRect k j).emb y 3).val, ((cRect k j).emb y 3).isLt⟩ : Fin 1024) = ⟨(y 3).val, (y 3).isLt⟩ := Fin.ext (by show 0 + 1 * (y 3).val = (y 3).val; omega)
    unfold CM
    rw [e0, e1, e2, e3]
  funext y
  have h := key (pr c e) e.succ (Shape.reshapeEquiv (squeezes_S1x1x64x1024_S64x1024).numel_eq y)
  rw [srcDev_pr] at h
  have h' := key c 0 (Shape.reshapeEquiv (squeezes_S1x1x64x1024_S64x1024).numel_eq y)
  rw [srcDev_zero] at h'
  exact h.trans h'.symm

theorem recv_land (c : Dev nD) (k : Fin 4) (e : Fin 3) (f : Buf (Elt F) ((slotM k e.succ).view.loc (pr c e : Thread nD τ))) :
    (((slotM k e.succ).view.loc (pr c e : Thread nD τ) ↦[(slotM k e.succ).view.set]{fullShare}
        ((slotM k e.succ).view.write (Elt F) f ((slotM k 0).view.read (Elt F) (CMb m c)) Finset.univ) : sProp 𝕄))
      ⊢ recvPay m (pr c e) (k, e) := by
  unfold recvPay slotPts
  rw [← slot_read m c k e]
  exact Entails.of_eq (pts_write_read (c := (pr c e : Thread nD τ)) (slotM k e.succ).view fullShare f (CMb m (pr c e)))

theorem wp_snd {α : Type} (K : KNames) (c : Dev nD) (k : Fin 4) (e : Fin 3) (l : List XK) {n : Dev nD} (hn : n = pr c e)
    {srcw dstw : Memref sig .tc .vmem S64x1024 .bf16} {sS sR : SemLoc sig} (hs : srcw = slotM k 0) (hd : dstw = slotM k e.succ)
    (hsS : sS = .dma (xferS (0, k, e))) (hsR : sR = .dma (xferS (1, k, e)))
    {hsc : (dstw : Memref sig (Dev.tc n : Thread nD τ).2.kind .vmem S64x1024 .bf16).view.ref.isScScratch = false}
    {hsrc : srcw.view.WordExact} {hdst : dstw.view.WordExact}
    {hsem : DmaTarget.Typed .vmem sR (.remote (Dev.tc n : Thread nD τ) (dstw : Memref sig .tc .vmem S64x1024 .bf16) sS hsc)}
    {cont : PUnit → Prog (TpuEff nD τ sig (Elt F) Λ₀ .tc) α} {Qf : α → sProp 𝕄} :
    iprop(records m K ∗ owesS c (OL c ((k, e) :: l)) ∗ SndL c ((k, e) :: l) ∗ slotPts c k 0 (lendQ e) (CMb m c))
      ⊢ iprop((iprop(owesS c (OL c l) ∗ SndL c l ∗ C c (k, e)) -∗ wp frame (wpE (defs₀ (F := F)) 𝒱₀ (c : Thread nD τ) none) Set.univ (cont ⟨⟩) Qf)
        -∗ wp frame (wpE (defs₀ (F := F)) 𝒱₀ (c : Thread nD τ) none) Set.univ (.op (.enqueueDma srcw (.remote (Dev.tc n : Thread nD τ) dstw sS hsc) sR hsrc hdst hsem) cont) Qf) := by
  subst hn hs hd hsS hsR
  unfold owesS
  rw [show SndL (F := F) c ((k, e) :: l) = iprop(A c (k, e) ∗ SndL c l) from rfl,
    show OL c ((k, e) :: l) = OL c l + tallyAt (recvCell (pr c e) (k, e)) () SN from rfl]
  unfold A
  iintro ⟨#HR, ⟨%W, HO⟩, ⟨⟨HTs, HTr, Hat, ⟨%f, Hd⟩⟩, HL⟩, Hs⟩ Hk
  ihave #H1 := (rec_x m K c (0, k, e)) $$ HR
  icases H1 with ⟨HI1, Hr1⟩
  ihave #H2 := (rec_x m K (pr c e) (1, k, e)) $$ HR
  icases H2 with ⟨HI2, Hr2⟩
  unfold slotPts
  iapply (Rounds.wp_send_pointsTo 𝒱₀ ER (Rd m) (c : Thread nD τ) none (κ₁ := K (c, some (0, k, e))) (κ₂ := K (pr c e, some (1, k, e)))
    (r₁ := 0) (r₂ := 0) (d₁ := 0) (d₂ := 0) (fd := f) (q := lendQ e) (fs := CMb m c) (src := slotM k 0) (dst := slotM k e.succ)
    (sS := .dma (xferS (0, k, e))) (sem := .dma (xferS (1, k, e))) (c' := (pr c e : Thread nD τ))
    (by rw [duties_x]; exact Finset.mem_singleton_self _) (by rw [duties_x]; exact Finset.mem_singleton_self _)
    () () SN rfl (amount_x m c (0, k, e) 0) (amount_x m (pr c e) (1, k, e) 0) (OL c l) rfl (W := W)
    (by rw [payload_send]; exact BI.Entails.refl _)
    (by rw [payload_recv]; exact recv_land m c k e f)) $$ [HO HTs HTr Hd Hs]
  · isplitr; · iexact HI1
    isplitr; · iexact HI2
    isplitl [Hs]; · iexact Hs
    isplitl [Hd]; · iexact Hd
    isplitl [HO]; · iexact HO
    isplitl [HTs]; · iexact HTs
    isplitr; · iexact Hr1
    isplitl [HTr]; · iexact HTr
    iexact Hr2
  iintro ⟨HC, HO⟩
  iapply Hk
  isplitl [HO]; · iexists _; iexact HO
  isplitl [HL]; · iexact HL
  unfold C
  isplitl [Hat]; · iexact Hat
  iexact HC

theorem wp_rcv {α : Type} (K : KNames) (c : Dev nD) (k : Fin 4) (e : Fin 3) (l : List XK)
    {sp : Space} {srcw : Memref sig .tc sp S64x1024 .bf16} {dstw : Memref sig .tc .vmem S64x1024 .bf16} {sm : DmaSem sig}
    (hN : dstw.view.dmaCredit = SN) (hsm : sm = xferS (1, k, e))
    {hsrc : srcw.view.WordExact} {hdst : dstw.view.WordExact}
    {cont : PUnit → Prog (TpuEff nD τ sig (Elt F) Λ₀ .tc) α} {Qf : α → sProp 𝕄} :
    iprop(records m K ∗ owesS c 0 ∗ RcvL c ((k, e) :: l))
      ⊢ iprop((iprop(owesS c 0 ∗ RcvL c l ∗ slotPts c k e.succ fullShare (CMb m c) ∗ semVal (recvCell c (k, e)) 0) -∗ wp frame (wpE (defs₀ (F := F)) 𝒱₀ (c : Thread nD τ) none) Set.univ (cont ⟨⟩) Qf)
        -∗ wp frame (wpE (defs₀ (F := F)) 𝒱₀ (c : Thread nD τ) none) Set.univ (.op (.waitDma2 sm srcw dstw hsrc hdst) cont) Qf) := by
  subst hsm
  unfold owesS
  rw [show RcvL (F := F) c ((k, e) :: l) = iprop(B c (k, e) ∗ RcvL c l) from rfl]
  unfold B
  iintro ⟨#HR, ⟨%W, HO⟩, ⟨⟨Hat, HC⟩, HL⟩⟩ Hk
  ihave #H1 := (rec_x m K c (1, k, e)) $$ HR
  icases H1 with ⟨HI, Hr⟩
  iapply (Rounds.wp_wait_rest_token 𝒱₀ ER (Rd m) (c : Thread nD τ) none (κ := K (c, some (1, k, e))) (sm := .dma (xferS (1, k, e))) (k' := dstw.view.dmaCredit)
      (wpE_waitDma2_eq 𝒱₀ (c : Thread nD τ) none Set.univ) (Set.mem_univ _) () (O := 0) (W := W) (R := 0) (m := 0) (T := ∅)
      ((Nat.zero_add _).trans (hN.trans (expect_x m c (1, k, e)).symm))) $$ [HC HO Hat]
  · isplitr; · iexact HI
    isplitl [HC]; · rw [hN]; iexact HC
    isplitl [HO]; · iexact HO
    isplitr; · rw [MayWait_zero]; iempintro
    iexact Hat
  rw [rest_recv]
  iintro ⟨HO, Hat, -, HP⟩
  imod (Rounds.cell_close ER (Rd m) (Set.mem_univ (K (c, some (1, k, e)))) (fun h => h) (R := 0 + 1) (duties_later m _)) $$ [Hat] with Hv
  · isplitr; · iexact HI
    iexact Hat
  iapply Hk
  isplitl [HO]; · iexists _; iexact HO
  isplitl [HL]; · iexact HL
  unfold recvPay
  isplitl [HP]; · iexact HP
  iexact Hv

theorem wp_sent {α : Type} (K : KNames) (c : Dev nD) (k : Fin 4) (e : Fin 3)
    {sp : Space} {srcw : Memref sig .tc sp S64x1024 .bf16} {dstw : Memref sig .tc .vmem S64x1024 .bf16} {sm : DmaSem sig}
    (hN : dstw.view.dmaCredit = SN) (hsm : sm = xferS (0, k, e))
    {hsrc : srcw.view.WordExact} {hdst : dstw.view.WordExact}
    {cont : PUnit → Prog (TpuEff nD τ sig (Elt F) Λ₀ .tc) α} {Qf : α → sProp 𝕄} :
    iprop(records m K ∗ owesS c 0 ∗ C c (k, e))
      ⊢ iprop((iprop(owesS c 0 ∗ slotPts c k 0 (lendQ e) (CMb m c) ∗ semVal (sendCell c (k, e)) 0) -∗ wp frame (wpE (defs₀ (F := F)) 𝒱₀ (c : Thread nD τ) none) Set.univ (cont ⟨⟩) Qf)
        -∗ wp frame (wpE (defs₀ (F := F)) 𝒱₀ (c : Thread nD τ) none) Set.univ (.op (.waitDma2 sm srcw dstw hsrc hdst) cont) Qf) := by
  subst hsm
  unfold owesS C
  iintro ⟨#HR, ⟨%W, HO⟩, Hat, HC⟩ Hk
  ihave #H1 := (rec_x m K c (0, k, e)) $$ HR
  icases H1 with ⟨HI, Hr⟩
  iapply (Rounds.wp_wait_rest_token 𝒱₀ ER (Rd m) (c : Thread nD τ) none (κ := K (c, some (0, k, e))) (sm := .dma (xferS (0, k, e))) (k' := dstw.view.dmaCredit)
      (wpE_waitDma2_eq 𝒱₀ (c : Thread nD τ) none Set.univ) (Set.mem_univ _) () (O := 0) (W := W) (R := 0) (m := 0) (T := ∅)
      ((Nat.zero_add _).trans (hN.trans (expect_x m c (0, k, e)).symm))) $$ [HC HO Hat]
  · isplitr; · iexact HI
    isplitl [HC]; · rw [hN]; iexact HC
    isplitl [HO]; · iexact HO
    isplitr; · rw [MayWait_zero]; iempintro
    iexact Hat
  rw [rest_send]
  iintro ⟨HO, Hat, -, HP⟩
  imod (Rounds.cell_close ER (Rd m) (Set.mem_univ (K (c, some (0, k, e)))) (fun h => h) (R := 0 + 1) (duties_later m _)) $$ [Hat] with Hv
  · isplitr; · iexact HI
    iexact Hat
  iapply Hk
  isplitl [HO]; · iexists _; iexact HO
  unfold sendPay
  isplitl [HP]; · iexact HP
  iexact Hv

end Cert.KProof
-- ==== Proof.Access.lean ====
/-
# `Access`: the loads and stores
-/
module

public import proofs.«01_k».proof.Proof.Steps

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Loads of whole arrays -/

theorem hz3 : (![0, 0, 0] : Fin 3 → Nat) = fun _ => 0 := by funext a; fin_cases a <;> rfl
theorem hz2 : (![0, 0] : Fin 2 → Nat) = fun _ => 0 := by funext a; fin_cases a <;> rfl

/-- The staged queries' source, the staged query weights, the staged output weights. -/
def XP (c : Dev nD) : sProp 𝕄 := (c : Thread nD τ).loc cc0_stg0_0 ↦{fullShare} (xstg m c : Buf (Elt F) ((c : Thread nD τ).loc cc0_stg0_0))
def WqP (c : Dev nD) : sProp 𝕄 := (c : Thread nD τ).loc cc0_stg1_0 ↦{fullShare} (wqstg m c : Buf (Elt F) ((c : Thread nD τ).loc cc0_stg1_0))
def WoP (c : Dev nD) : sProp 𝕄 := (c : Thread nD τ).loc cc0_stg2_0 ↦{fullShare} (wostg m c : Buf (Elt F) ((c : Thread nD τ).loc cc0_stg2_0))

theorem wp_loadX {α : Type} (c : Dev nD) {inb} {hl}
    {cont : Vec F S1x256x1024 .f32 → Prog (TpuEff nD τ sig (Elt F) Λ₀ .tc) α} {Qf : α → sProp 𝕄} :
    XP m c
      ⊢ iprop((XP m c -∗ wp frame (wpE (defs₀ (F := F)) 𝒱₀ (c : Thread nD τ) none) Set.univ (cont (xstg m c)) Qf)
        -∗ wp frame (wpE (defs₀ (F := F)) 𝒱₀ (c : Thread nD τ) none) Set.univ
            (.op (.load xM (Rect.unit (s := S1x256x1024) ![0, 0, 0] S1x256x1024.size inb).toLoadRect hl) cont) Qf) := by
  unfold XP
  iintro H Hk
  iapply (wp_load (Q := Qf) (k := cont) (hl := hl) (f := xstg m c) (q := fullShare) (defs := defs₀ (F := F)) 𝒱₀ (c : Thread nD τ) none Set.univ
    (m := xM) (r := (Rect.unit (s := S1x256x1024) ![0, 0, 0] S1x256x1024.size inb).toLoadRect) (S := Finset.univ) (Finset.subset_univ _)) $$ H
  rw [show xM.view.readAt (Elt F) (Rect.unit (s := S1x256x1024) ![0, 0, 0] S1x256x1024.size inb).toLoadRect (xstg m c) = xstg m c from
    Memref.readAt_unit_zero (Elt F) cc0_stg0_0 hz3 _ (xstg m c)]
  iexact Hk

theorem wp_loadWq {α : Type} (c : Dev nD) {inb} {hl}
    {cont : Vec F S1024x1024 .f32 → Prog (TpuEff nD τ sig (Elt F) Λ₀ .tc) α} {Qf : α → sProp 𝕄} :
    WqP m c
      ⊢ iprop((WqP m c -∗ wp frame (wpE (defs₀ (F := F)) 𝒱₀ (c : Thread nD τ) none) Set.univ (cont (wqstg m c)) Qf)
        -∗ wp frame (wpE (defs₀ (F := F)) 𝒱₀ (c : Thread nD τ) none) Set.univ
            (.op (.load wqM (Rect.unit (s := S1024x1024) ![0, 0] S1024x1024.size inb).toLoadRect hl) cont) Qf) := by
  unfold WqP
  iintro H Hk
  iapply (wp_load (Q := Qf) (k := cont) (hl := hl) (f := wqstg m c) (q := fullShare) (defs := defs₀ (F := F)) 𝒱₀ (c : Thread nD τ) none Set.univ
    (m := wqM) (r := (Rect.unit (s := S1024x1024) ![0, 0] S1024x1024.size inb).toLoadRect) (S := Finset.univ) (Finset.subset_univ _)) $$ H
  rw [show wqM.view.readAt (Elt F) (Rect.unit (s := S1024x1024) ![0, 0] S1024x1024.size inb).toLoadRect (wqstg m c) = wqstg m c from
    Memref.readAt_unit_zero (Elt F) cc0_stg1_0 hz2 _ (wqstg m c)]
  iexact Hk

theorem wp_loadWo {α : Type} (c : Dev nD) {inb} {hl}
    {cont : Vec F S1024x1024 .f32 → Prog (TpuEff nD τ sig (Elt F) Λ₀ .tc) α} {Qf : α → sProp 𝕄} :
    WoP m c
      ⊢ iprop((WoP m c -∗ wp frame (wpE (defs₀ (F := F)) 𝒱₀ (c : Thread nD τ) none) Set.univ (cont (wostg m c)) Qf)
        -∗ wp frame (wpE (defs₀ (F := F)) 𝒱₀ (c : Thread nD τ) none) Set.univ
            (.op (.load woM (Rect.unit (s := S1024x1024) ![0, 0] S1024x1024.size inb).toLoadRect hl) cont) Qf) := by
  unfold WoP
  iintro H Hk
  iapply (wp_load (Q := Qf) (k := cont) (hl := hl) (f := wostg m c) (q := fullShare) (defs := defs₀ (F := F)) 𝒱₀ (c : Thread nD τ) none Set.univ
    (m := woM) (r := (Rect.unit (s := S1024x1024) ![0, 0] S1024x1024.size inb).toLoadRect) (S := Finset.univ) (Finset.subset_univ _)) $$ H
  rw [show woM.view.readAt (Elt F) (Rect.unit (s := S1024x1024) ![0, 0] S1024x1024.size inb).toLoadRect (wostg m c) = wostg m c from
    Memref.readAt_unit_zero (Elt F) cc0_stg2_0 hz2 _ (wostg m c)]
  iexact Hk

/-! ## A head's keys or values -/

/-- The elements chunk `ci`'s copies fill. -/
def pieceSet (s : Fin 2) (c : Dev nD) (ci : Fin 4) (sb : Fin 16) : Finset (Idx ((dstB s).view.loc (c : Thread nD τ))) := (dMem s ci sb).view.set
def chunkSet (s : Fin 2) (c : Dev nD) (ci : Fin 4) : Finset (Idx ((dstB s).view.loc (c : Thread nD τ))) :=
  Finset.univ.biUnion (pieceSet s c ci)

theorem dRect_disjoint (p q : Fin 4 × Fin 16) (h : p ≠ q) : Disjoint (dRect p.1 p.2).set (dRect q.1 q.2).set := by
  by_cases h1 : p.1 = q.1
  · have h2 : p.2 ≠ q.2 := fun h2 => h (Prod.ext h1 h2)
    have h3 : p.2.val ≠ q.2.val := fun h3 => h2 (Fin.ext h3)
    refine Rect.unit_disjoint 1 ?_
    show 64 * p.2.val + 64 ≤ 64 * q.2.val ∨ 64 * q.2.val + 64 ≤ 64 * p.2.val
    omega
  · have h3 : p.1.val ≠ q.1.val := fun h3 => h1 (Fin.ext h3)
    refine Rect.unit_disjoint 0 ?_
    show p.1.val + 1 ≤ q.1.val ∨ q.1.val + 1 ≤ p.1.val
    omega

theorem dMem_set (s : Fin 2) (ci : Fin 4) (sb : Fin 16) : (dMem s ci sb).view.set = (dstB s).view.setOn (dRect ci sb).set := by
  show ((((dstB s).view.slice (dRect ci sb)).reshape S64x8x128 _).set) = _
  rw [View.set_reshape, View.set_slice]
  rfl

theorem dMem_disjoint (s : Fin 2) (p q : Fin 4 × Fin 16) (h : p ≠ q) : Disjoint (dMem s p.1 p.2).view.set (dMem s q.1 q.2).view.set := by
  rw [dMem_set, dMem_set]
  exact (Finset.disjoint_map _).mpr (dRect_disjoint p q h)

theorem Slab_eq (s : Fin 2) (c : Dev nD) (ci : Fin 4) :
    Slab m s c ci = ((dstB s).view.loc (c : Thread nD τ) ↦[chunkSet s c ci]{fullShare} kvF m s c : sProp 𝕄) := by
  have hb := pointsTo_biUnion (ℓ := (dstB s).view.loc (c : Thread nD τ)) (q := fullShare) (f := kvF m s c) (Ix := Unit) (Name := ℕ) (U := UU) (Lvl := ℕ)
    Finset.univ (pieceSet s c ci) fun t _ t' _ h => dMem_disjoint s (ci, t) (ci, t') (fun h' => h (congrArg Prod.snd h'))
  exact hb.symm

theorem head_sub (s : Fin 2) (c : Dev nD) (ci : Fin 4) (h : Fin 8) : (dstB s).view.setOn (hRect ci h).toLoadRect.set ⊆ chunkSet s c ci := by
  unfold chunkSet
  intro i hi
  obtain ⟨j, hj, rfl⟩ := Finset.mem_map.mp hi
  have hj' : j ∈ (hRect ci h).set := hj
  rw [Rect.mem_set_unit] at hj'
  have h1 : (j 1).val < 1024 := (j 1).isLt
  refine Finset.mem_biUnion.mpr ⟨⟨(j 1).val / 64, by omega⟩, Finset.mem_univ _, ?_⟩
  unfold pieceSet
  rw [dMem_set]
  refine Finset.mem_map.mpr ⟨j, ?_, rfl⟩
  rw [Rect.mem_set_unit]
  have e0 := hj' 0; have e2 := hj' 2; have e3 := hj' 3
  have l2 : (j 2).val < 8 := (j 2).isLt
  have l3 : (j 3).val < 128 := (j 3).isLt
  intro a
  fin_cases a
  · exact e0
  · show 64 * ((j 1).val / 64) ≤ (j 1).val ∧ (j 1).val < 64 * ((j 1).val / 64) + 64; omega
  · show 0 ≤ (j 2).val ∧ (j 2).val < 0 + 8; omega
  · show 0 ≤ (j 3).val ∧ (j 3).val < 0 + 128; omega

theorem wp_loadHead {α : Type} (s : Fin 2) (c : Dev nD) (ci : Fin 4) (h : Fin 8) {dm : Memref sig .tc .vmem S4x1024x8x128 .f32} {off : Fin 4 → Nat}
    (hdm : dm = dstB s) (hoff : off = ![ci.val, 0, h.val, 0]) {inb} {hl}
    {cont : Vec F S1x1024x1x128 .f32 → Prog (TpuEff nD τ sig (Elt F) Λ₀ .tc) α} {Qf : α → sProp 𝕄} :
    Slab m s c ci
      ⊢ iprop((Slab m s c ci -∗ wp frame (wpE (defs₀ (F := F)) 𝒱₀ (c : Thread nD τ) none) Set.univ (cont (kvHead m s c ci h)) Qf)
        -∗ wp frame (wpE (defs₀ (F := F)) 𝒱₀ (c : Thread nD τ) none) Set.univ
            (.op (.load dm (Rect.unit (s := S4x1024x8x128) off S1x1024x1x128.size inb).toLoadRect hl) cont) Qf) := by
  subst hdm hoff
  rw [Slab_eq]
  exact wp_load (Q := Qf) (k := cont) (hl := hl) (f := kvF m s c) (q := fullShare) (defs := defs₀ (F := F)) 𝒱₀ (c : Thread nD τ) none Set.univ
    (m := dstB s) (r := (hRect ci h).toLoadRect) (S := chunkSet s c ci) (head_sub s c ci h)

/-! ## The slots -/

theorem slot_set (k j : Fin 4) : (slotM k j).view.set = cM.view.setOn (cRect k j).set := by
  show (((cM.view.slice (cRect k j)).reshape S64x1024 _).set) = _
  rw [View.set_reshape, View.set_slice]
  rfl

theorem slot_val (c : Dev nD) (k j : Fin 4) : cM.view.readAt (Elt F) (cRect k j).toLoadRect (CMb m c) = prt m (srcDev c j) k := by
  funext y
  have h0 : (y 0).val < 1 := (y 0).isLt
  have h1 : (y 1).val < 1 := (y 1).isLt
  have e0 : (cRect k j).emb y 0 = k := Fin.ext (by show k.val + 1 * (y 0).val = k.val; omega)
  have e1 : (cRect k j).emb y 1 = j := Fin.ext (by show j.val + 1 * (y 1).val = j.val; omega)
  show CM m c ((cRect k j).emb y) = _
  unfold CM
  rw [e0, e1]
  congr 1
  funext a
  refine Fin.ext ?_
  fin_cases a
  · show 0 = (y 0).val; omega
  · show 0 = (y 1).val; omega
  · show 0 + 1 * (y 2).val = (y 2).val; omega
  · show 0 + 1 * (y 3).val = (y 3).val; omega

theorem wp_loadSlot {α : Type} (c : Dev nD) (k j : Fin 4) (q : PosShare TreeShare) {off : Fin 4 → Nat} (hoff : off = ![k.val, j.val, 0, 0]) {inb} {hl}
    {cont : Vec F S1x1x64x1024 .bf16 → Prog (TpuEff nD τ sig (Elt F) Λ₀ .tc) α} {Qf : α → sProp 𝕄} :
    slotPts c k j q (CMb m c)
      ⊢ iprop((slotPts c k j q (CMb m c) -∗ wp frame (wpE (defs₀ (F := F)) 𝒱₀ (c : Thread nD τ) none) Set.univ (cont (prt m (srcDev c j) k)) Qf)
        -∗ wp frame (wpE (defs₀ (F := F)) 𝒱₀ (c : Thread nD τ) none) Set.univ
            (.op (.load cM (Rect.unit (s := S4x4x64x1024) off S1x1x64x1024.size inb).toLoadRect hl) cont) Qf) := by
  subst hoff
  unfold slotPts
  rw [← slot_val]
  exact wp_load (Q := Qf) (k := cont) (hl := hl) (f := CMb m c) (q := q) (defs := defs₀ (F := F)) 𝒱₀ (c : Thread nD τ) none Set.univ
    (m := cM) (r := (cRect k j).toLoadRect) (S := (slotM k j).view.set) (by rw [slot_set])

theorem wp_loadSlotAny {α : Type} (c : Dev nD) (k j : Fin 4) (q : PosShare TreeShare) (f) {off : Fin 4 → Nat} (hoff : off = ![k.val, j.val, 0, 0]) {inb} {hl}
    {cont : Vec F S1x1x64x1024 .bf16 → Prog (TpuEff nD τ sig (Elt F) Λ₀ .tc) α} {Qf : α → sProp 𝕄} :
    slotPts c k j q f
      ⊢ iprop((∀ w, slotPts c k j q f -∗ wp frame (wpE (defs₀ (F := F)) 𝒱₀ (c : Thread nD τ) none) Set.univ (cont w) Qf)
        -∗ wp frame (wpE (defs₀ (F := F)) 𝒱₀ (c : Thread nD τ) none) Set.univ
            (.op (.load cM (Rect.unit (s := S4x4x64x1024) off S1x1x64x1024.size inb).toLoadRect hl) cont) Qf) := by
  subst hoff
  unfold slotPts
  iintro H Hk
  iapply (wp_load (Q := Qf) (k := cont) (hl := hl) (f := f) (q := q) (defs := defs₀ (F := F)) 𝒱₀ (c : Thread nD τ) none Set.univ
    (m := cM) (r := (cRect k j).toLoadRect) (S := (slotM k j).view.set) (by rw [slot_set])) $$ H
  iintro H
  iapply Hk
  iexact H

theorem wp_storeSlot {α : Type} (c : Dev nD) (k : Fin 4) (f) {off : Fin 4 → Nat} (hoff : off = ![k.val, 0, 0, 0]) {inb}
    {w : Vec F S1x1x64x1024 .bf16} (hw : w = prt m c k) {hx} {hm}
    {cont : PUnit → Prog (TpuEff nD τ sig (Elt F) Λ₀ .tc) α} {Qf : α → sProp 𝕄} :
    slotPts c k 0 fullShare f
      ⊢ iprop((slotPts c k 0 fullShare (CMb m c) -∗ wp frame (wpE (defs₀ (F := F)) 𝒱₀ (c : Thread nD τ) none) Set.univ (cont ⟨⟩) Qf)
        -∗ wp frame (wpE (defs₀ (F := F)) 𝒱₀ (c : Thread nD τ) none) Set.univ
            (.op (.store cM (Rect.unit (s := S4x4x64x1024) off S1x1x64x1024.size inb) w Finset.univ hx hm) cont) Qf) := by
  subst hoff
  iintro H Hk
  have hset : (slotM k 0).view.set = (cM.access (cRect k 0)).set := View.set_reshape _ _
  have hw' : w = (cM.access (cRect k 0)).read (Elt F) (CMb m c) := by
    rw [hw]
    exact (congrArg (fun d => prt m d k) (srcDev_zero c).symm).trans (slot_val m c k 0).symm
  iapply (wp_store (Q := Qf) (k := cont) (hx := hx) (hm := hm) (f := f) (defs := defs₀ (F := F)) 𝒱₀ (c : Thread nD τ) none Set.univ
    (m := cM) (r := cRect k 0) (Mk := Finset.univ) (S := (cM.access (cRect k 0)).set) (w := w) (Finset.Subset.refl _)) $$ [H]
  · unfold slotPts; rw [hset]; iexact H
  rw [hw', pts_write_read (c := (c : Thread nD τ)) (cM.access (cRect k 0)) fullShare f (CMb m c)]
  iintro H
  iapply Hk
  unfold slotPts; rw [hset]; iexact H

/-- The slot lent to the three copies and kept. -/
theorem slot_split (c : Dev nD) (k : Fin 4) (f) :
    (slotPts c k 0 fullShare f : sProp 𝕄) = iprop(slotPts c k 0 (lendQ 0) f ∗ slotPts c k 0 (lendQ 1) f ∗ slotPts c k 0 (lendQ 2) f ∗ slotPts c k 0 keepQ f) := by
  unfold slotPts
  rw [ShareLeaves.pointsTo_leaves _ f 2 fullShare]
  rw [bigSep_univ_eq_bigSepL [(0 : Fin 4), 1, 2, 3] (by decide) (by decide)]
  simp only [bigSepL_cons_cons, bigSepL_singleton]
  rfl

/-! ## The output -/

/-- Block `k` of the output on device `c`: the parts added up. -/
def outBlk (c : Dev nD) (k : Fin 4) : Vec F S1x64x1024 .f32 :=
  shapeCast S1x64x1024 (addf
    (addf (extf .f32 (shapeCast S64x1024 (prt m (srcDev c 0) k) shapeCasts_S1x1x64x1024_S64x1024) bitsLt_bf16_f32)
      (extf .f32 (shapeCast S64x1024 (prt m (srcDev c 1) k) shapeCasts_S1x1x64x1024_S64x1024) bitsLt_bf16_f32))
    (addf (extf .f32 (shapeCast S64x1024 (prt m (srcDev c 2) k) shapeCasts_S1x1x64x1024_S64x1024) bitsLt_bf16_f32)
      (extf .f32 (shapeCast S64x1024 (prt m (srcDev c 3) k) shapeCasts_S1x1x64x1024_S64x1024) bitsLt_bf16_f32)))
    shapeCasts_S64x1024_S1x64x1024

def outAt (c : Dev nD) : S1x256x1024.Idx → Elt F .f32 := fun i =>
  outBlk m c ⟨(i 1).val / 64, by have h : (i 1).val < 256 := (i 1).isLt; omega⟩
    (ix3 (⟨0, by decide⟩ : Fin 1) (⟨(i 1).val % 64, Nat.mod_lt _ (by decide)⟩ : Fin 64) (⟨(i 2).val, (i 2).isLt⟩ : Fin 1024))

/-- The output's staging buffer with the first `k` blocks right. -/
def OutSt (c : Dev nD) (k : ℕ) : sProp 𝕄 :=
  iprop(∃ f : Buf (Elt F) ((c : Thread nD τ).loc cc0_stg3_0),
    ⌜∀ i : S1x256x1024.Idx, (i 1).val < 64 * k → (f : S1x256x1024.Idx → Elt F .f32) i = outAt m c i⌝ ∗ ((c : Thread nD τ).loc cc0_stg3_0 ↦{fullShare} f))

theorem OutSt_init (c : Dev nD) (f : Buf (Elt F) ((c : Thread nD τ).loc cc0_stg3_0)) : ((c : Thread nD τ).loc cc0_stg3_0 ↦{fullShare} f) ⊢ (OutSt m c 0 : sProp 𝕄) := by
  unfold OutSt
  iintro H
  iexists f
  isplitr
  · ipureintro; intro i hi; exact absurd hi (by omega)
  iexact H

theorem OutSt_done (c : Dev nD) : OutSt m c 4 ⊢ ((c : Thread nD τ).loc cc0_stg3_0 ↦{fullShare} (outAt m c : Buf (Elt F) ((c : Thread nD τ).loc cc0_stg3_0)) : sProp 𝕄) := by
  unfold OutSt
  iintro ⟨%f, %hf, H⟩
  have h : f = (outAt m c : Buf (Elt F) ((c : Thread nD τ).loc cc0_stg3_0)) := by
    funext i
    exact hf i (by have h : (((i : S1x256x1024.Idx)) 1).val < 256 := ((i : S1x256x1024.Idx) 1).isLt; exact h)
  rw [h]
  iexact H

theorem wp_loadOut {α : Type} (c : Dev nD) (k : ℕ) {off : Fin 3 → Nat} {inb} {hl}
    {cont : Vec F S1x64x1024 .f32 → Prog (TpuEff nD τ sig (Elt F) Λ₀ .tc) α} {Qf : α → sProp 𝕄} :
    OutSt m c k
      ⊢ iprop((∀ w, OutSt m c k -∗ wp frame (wpE (defs₀ (F := F)) 𝒱₀ (c : Thread nD τ) none) Set.univ (cont w) Qf)
        -∗ wp frame (wpE (defs₀ (F := F)) 𝒱₀ (c : Thread nD τ) none) Set.univ
            (.op (.load oM (Rect.unit (s := S1x256x1024) off S1x64x1024.size inb).toLoadRect hl) cont) Qf) := by
  unfold OutSt
  iintro ⟨%f, %hf, H⟩ Hk
  iapply (wp_load (Q := Qf) (k := cont) (hl := hl) (f := f) (q := fullShare) (defs := defs₀ (F := F)) 𝒱₀ (c : Thread nD τ) none Set.univ
    (m := oM) (r := (Rect.unit (s := S1x256x1024) off S1x64x1024.size inb).toLoadRect) (S := Finset.univ) (Finset.subset_univ _)) $$ H
  iintro H
  iapply Hk
  iexists f
  isplitr; · ipureintro; exact hf
  iexact H

theorem wp_storeOut {α : Type} (c : Dev nD) (k : Fin 4) {n n' : ℕ} (hn : n = k.val) (hn' : n' = k.val + 1) {off : Fin 3 → Nat} (hoff : off = ![0, 64 * k.val, 0]) {inb}
    {w : Vec F S1x64x1024 .f32} (hw : w = outBlk m c k) {hx} {hm}
    {cont : PUnit → Prog (TpuEff nD τ sig (Elt F) Λ₀ .tc) α} {Qf : α → sProp 𝕄} :
    OutSt m c n
      ⊢ iprop((OutSt m c n' -∗ wp frame (wpE (defs₀ (F := F)) 𝒱₀ (c : Thread nD τ) none) Set.univ (cont ⟨⟩) Qf)
        -∗ wp frame (wpE (defs₀ (F := F)) 𝒱₀ (c : Thread nD τ) none) Set.univ
            (.op (.store oM (Rect.unit (s := S1x256x1024) off S1x64x1024.size inb) w Finset.univ hx hm) cont) Qf) := by
  subst hn hn' hoff hw
  have hk := k.isLt
  unfold OutSt
  iintro ⟨%f, %hf, H⟩ Hk
  iapply (wp_store (Q := Qf) (k := cont) (hx := hx) (hm := hm) (f := f) (defs := defs₀ (F := F)) 𝒱₀ (c : Thread nD τ) none Set.univ
    (m := oM) (r := Rect.unit (s := S1x256x1024) ![0, 64 * k.val, 0] S1x64x1024.size inb) (Mk := Finset.univ) (S := Finset.univ) (w := outBlk m c k) (Finset.subset_univ _)) $$ H
  iintro H
  iapply Hk
  iexists _
  isplitr
  rotate_left
  · iexact H
  ipureintro
  intro i hi
  have hi1 : (i 1).val < 256 := (i 1).isLt
  have hi0 : (i 0).val < 1 := (i 0).isLt
  have hi2 : (i 2).val < 1024 := (i 2).isLt
  by_cases hlt : (i 1).val < 64 * k.val
  · refine (View.write_of_not_mem (v := oM.access (Rect.unit (s := S1x256x1024) ![0, 64 * k.val, 0] S1x64x1024.size inb)) f _ _ ?_).trans (hf i hlt)
    intro hm'
    obtain ⟨x, -, hx'⟩ := Finset.mem_map.mp hm'
    have h1 : 64 * k.val + 1 * (x 1).val = (i 1).val := congrArg (fun j : S1x256x1024.Idx => (j 1).val) hx'
    omega
  · have hb : i = (Rect.unit (s := S1x256x1024) ![0, 64 * k.val, 0] S1x64x1024.size inb).emb
        (ix3 (⟨0, by decide⟩ : Fin 1) (⟨(i 1).val % 64, Nat.mod_lt _ (by decide)⟩ : Fin 64) (⟨(i 2).val, (i 2).isLt⟩ : Fin 1024)) := by
      funext a
      refine Fin.ext ?_
      fin_cases a
      · show (i 0).val = 0 + 1 * 0; omega
      · show (i 1).val = 64 * k.val + 1 * ((i 1).val % 64); omega
      · show (i 2).val = 0 + 1 * (i 2).val; omega
    refine (congrArg ((oM.access (Rect.unit (s := S1x256x1024) ![0, 64 * k.val, 0] S1x64x1024.size inb)).write (Elt F) f (outBlk m c k) Finset.univ) hb).trans ?_
    refine (View.write_emb_of_mem (v := oM.access (Rect.unit (s := S1x256x1024) ![0, 64 * k.val, 0] S1x64x1024.size inb)) f _ (Finset.mem_univ _)).trans ?_
    have hkk : (⟨(i 1).val / 64, by omega⟩ : Fin 4) = k := Fin.ext (by show (i 1).val / 64 = k.val; omega)
    show outBlk m c k _ = outAt m c i
    unfold outAt
    rw [hkk]

end Cert.KProof
-- ==== Proof.Body.lean ====
/-
# `Body`: one device, run through
-/
module

public import proofs.«01_k».proof.Proof.Access

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

abbrev theBody : Prog (TpuEff nD τ sig (Elt F) Λ₀ .tc) PUnit :=
  cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5

theorem sMem_eq (s : Fin 2) (c : Dev nD) (ci : Fin 4) (sb : Fin 16) (off : Fin 4 → Nat) (inb : ∀ a, off a + S1x64x8x128.size a ≤ S1x4096x32x128.size a)
    (hoff : off = sOff c ci sb) :
    ((srcA s).slice (Rect.unit (s := S1x4096x32x128) off S1x64x8x128.size inb) (fun _ => rfl)).squeeze S64x8x128 squeezes_S1x64x8x128_S64x8x128
      = sMem s c ci sb := by
  subst hoff; rfl

/-- What a device needs to send, before the barrier hands it the slots. -/
def T (c : Dev nD) (x : XK) : sProp 𝕄 :=
  iprop(dutyTok ER (sendCell c x) 0 0 ∗ dutyTok ER (recvCell (pr c x.2) x) 0 0 ∗ atPos ER (sendCell c x) 0 ∅ 0)

theorem SndL_eq (c : Dev nD) (l : List XK) : (SndL c l : sProp 𝕄) = BI.bigSepL l (fun x => A c x) := by
  induction l with
  | nil => rfl
  | cons x l ih => rw [bigSepL_cons, ← ih]; rfl
theorem RcvL_eq (c : Dev nD) (l : List XK) : (RcvL c l : sProp 𝕄) = BI.bigSepL l (fun x => B c x) := by
  induction l with
  | nil => rfl
  | cons x l ih => rw [bigSepL_cons, ← ih]; rfl

/-- The slot block `x` is sent into. -/
def Given (c : Dev nD) (x : XK) : sProp 𝕄 := iprop(∃ f, slotPts (F := F) (pr c x.2) x.1 x.2.succ fullShare f)

theorem given_of (c : Dev nD) (k : Fin 4) (e : Fin 3) (R : sProp 𝕄) :
    iprop((∃ f, slotPts (F := F) (pr c e) k e.succ fullShare f) ∗ R) ⊢ Given (F := F) c (k, e) := by
  unfold Given
  iintro ⟨H, -⟩
  iexact H

theorem slots_given (c : Dev nD) : (bigSep Finset.univ fun d : Fin 3 => barPay (F := F) c d) ⊢ (bigSep Finset.univ fun x : XK => Given (F := F) c x) := by
  rw [bigSep_univ_equiv (Equiv.prodComm (Fin 3) (Fin 4)), bigSep_univ_prod,
    bigSep_univ_equiv (Fin.revPerm : Fin 3 ≃ Fin 3) (fun e => bigSep Finset.univ fun k : Fin 4 => Given (F := F) c (Equiv.prodComm (Fin 3) (Fin 4) (e, k)))]
  refine bigSep_mono fun d _ => ?_
  unfold barPay
  exact bigSep_mono fun k _ => given_of c k d.rev _

theorem need_all (c : Dev nD) (x : XK) : iprop(T (F := F) c x ∗ Given (F := F) c x) ⊢ A (F := F) c x := by
  unfold T A Given
  iintro ⟨⟨H1, H2, H3⟩, H4⟩
  isplitl [H1]; · iexact H1
  isplitl [H2]; · iexact H2
  isplitl [H3]; · iexact H3
  iexact H4

theorem snd_intro (c : Dev nD) :
    iprop((bigSep Finset.univ fun x : XK => T (F := F) c x) ∗ bigSep Finset.univ fun d : Fin 3 => barPay (F := F) c d) ⊢ SndL c allX := by
  rw [SndL_eq, ← bigSep_univ_eq_bigSepL allX (by decide) (by decide)]
  iintro ⟨HT, HP⟩
  ihave HS := (slots_given (F := F) c) $$ HP
  iapply (show iprop((bigSep Finset.univ fun x : XK => T (F := F) c x) ∗ bigSep Finset.univ fun x : XK => Given (F := F) c x) ⊢ bigSep Finset.univ fun x : XK => A (F := F) c x from by
    rw [← bsep_sep]
    exact bigSep_mono fun x _ => need_all c x)
  isplitl [HT]; · iexact HT
  iexact HS

/-- What is left of chunk, slots and semaphores of row `k` at the end. -/
def endRow (c : Dev nD) (k : Fin 4) : sProp 𝕄 :=
  iprop((Slab m 0 c k ∗ SrcBack m 0 c k ∗ semVal ((c : Thread nD τ), .dma (kvS 0 k)) 0)
    ∗ (Slab m 1 c k ∗ SrcBack m 1 c k ∗ semVal ((c : Thread nD τ), .dma (kvS 1 k)) 0)
    ∗ (slotPts c k 0 fullShare (CMb m c) ∗ slotPts c k 1 fullShare (CMb m c) ∗ slotPts c k 2 fullShare (CMb m c) ∗ slotPts c k 3 fullShare (CMb m c))
    ∗ (semVal (recvCell c (k, 0)) 0 ∗ semVal (recvCell c (k, 1)) 0 ∗ semVal (recvCell c (k, 2)) 0)
    ∗ (semVal (sendCell c (k, 0)) 0 ∗ semVal (sendCell c (k, 1)) 0 ∗ semVal (sendCell c (k, 2)) 0))

theorem end_kv (s : Fin 2) (c : Dev nD) (k : Fin 4) :
    Slab m s c k ⊢ iprop(SrcBack m s c k -∗ semVal ((c : Thread nD τ), .dma (kvS s k)) 0 -∗ (Slab m s c k ∗ SrcBack m s c k ∗ semVal ((c : Thread nD τ), .dma (kvS s k)) 0)) := by
  iintro H1 H2 H3
  isplitl [H1]; · iexact H1
  isplitl [H2] <;> iassumption
theorem end_slots (c : Dev nD) (k : Fin 4) :
    slotPts c k 0 (lendQ 0) (CMb m c) ⊢ iprop(slotPts c k 0 (lendQ 1) (CMb m c) -∗ slotPts c k 0 (lendQ 2) (CMb m c) -∗ slotPts c k 0 keepQ (CMb m c)
      -∗ slotPts c k (Fin.succ 0) fullShare (CMb m c) -∗ slotPts c k (Fin.succ 1) fullShare (CMb m c) -∗ slotPts c k (Fin.succ 2) fullShare (CMb m c)
      -∗ (slotPts c k 0 fullShare (CMb m c) ∗ slotPts c k 1 fullShare (CMb m c) ∗ slotPts c k 2 fullShare (CMb m c) ∗ slotPts c k 3 fullShare (CMb m c))) := by
  iintro H0 H1 H2 H3 D0 D1 D2
  isplitl [H0 H1 H2 H3]
  · rw [slot_split c k (CMb m c)]
    isplitl [H0]; · iexact H0
    isplitl [H1]; · iexact H1
    isplitl [H2] <;> iassumption
  isplitl [D0]; · iexact D0
  isplitl [D1]; · iexact D1
  iexact D2
theorem end_three (P0 P1 P2 : sProp 𝕄) : P0 ⊢ iprop(P1 -∗ P2 -∗ (P0 ∗ P1 ∗ P2)) := by
  iintro H0 H1 H2
  isplitl [H0]; · iexact H0
  isplitl [H1] <;> iassumption
theorem end_row (c : Dev nD) (k : Fin 4) {P Q R S T : sProp 𝕄} (h : endRow m c k = iprop(P ∗ Q ∗ R ∗ S ∗ T)) : P ⊢ iprop(Q -∗ R -∗ S -∗ T -∗ endRow m c k) := by
  rw [h]
  iintro H0 H1 H2 H3 H4
  isplitl [H0]; · iexact H0
  isplitl [H1]; · iexact H1
  isplitl [H2]; · iexact H2
  isplitl [H3] <;> iassumption

/-- What a device holds at the end of its body. -/
def bodyOut (c : Dev nD) : sProp 𝕄 :=
  iprop(owesS c 0 ∗ (endRow m c 0 ∗ endRow m c 1 ∗ endRow m c 2 ∗ endRow m c 3) ∗ XP m c ∗ WqP m c ∗ WoP m c
    ∗ ((c : Thread nD τ).loc cc0_stg3_0 ↦{fullShare} (outAt m c : Buf (Elt F) ((c : Thread nD τ).loc cc0_stg3_0))) ∗ semVal (barCell c) 0)

/-- A returned value goes on into what follows. -/
theorem wp_goOn {α β : Type} (c : Dev nD) (a : β) {k : β → Prog (TpuEff nD τ sig (Elt F) Λ₀ .tc) α} {Qf : α → sProp 𝕄} :
    wp frame (wpE (defs₀ (F := F)) 𝒱₀ (c : Thread nD τ) none) Set.univ (k a) Qf
      ⊢ wp frame (wpE (defs₀ (F := F)) 𝒱₀ (c : Thread nD τ) none) Set.univ ((Prog.ret a).bind k) Qf := Entails.refl _

theorem run_body (K : KNames) (c : Dev nD) (f0 : Buf (Elt F) ((dstB 0).view.loc (c : Thread nD τ))) (f1 : Buf (Elt F) ((dstB 1).view.loc (c : Thread nD τ)))
    (g0 : Buf (Elt F) ((c : Thread nD τ).loc cc0_scratch2)) (g1 : Buf (Elt F) ((c : Thread nD τ).loc cc0_stg3_0)) (Kt : PUnit → sProp 𝕄) :
    iprop(records m K ∗ levAts L lv ∗ owesS c (O₀ c)
      ∗ (dutyTok ER (barCell (pr c 0)) 0 0 ∗ dutyTok ER (barCell (pr c 1)) 0 1 ∗ dutyTok ER (barCell (pr c 2)) 0 2)
      ∗ (Give c 0 ∗ Give c 1 ∗ Give c 2)
      ∗ cred (tallyAt (barCell c) () 3) ∗ atPos ER (barCell c) 0 ∅ 0
      ∗ (bigSep Finset.univ fun x : XK => T (F := F) c x) ∗ RcvL c allX
      ∗ (Q m 0 c 0 f0 0 0 ∗ Q m 1 c 0 f1 0 0 ∗ Q m 0 c 1 f0 0 0 ∗ Q m 1 c 1 f1 0 0 ∗ Q m 0 c 2 f0 0 0 ∗ Q m 1 c 2 f1 0 0 ∗ Q m 0 c 3 f0 0 0 ∗ Q m 1 c 3 f1 0 0)
      ∗ (slotPts c 0 0 fullShare g0 ∗ slotPts c 1 0 fullShare g0 ∗ slotPts c 2 0 fullShare g0 ∗ slotPts c 3 0 fullShare g0)
      ∗ XP m c
      ∗ WqP m c
      ∗ WoP m c
      ∗ ((c : Thread nD τ).loc cc0_stg3_0 ↦{fullShare} g1)
      ∗ (bodyOut m c -∗ Kt ⟨⟩))
    ⊢ wp frame (wpE (defs₀ (F := F)) 𝒱₀ (c : Thread nD τ) none) Set.univ theBody Kt := by
  unfold O₀ O₁ O₂
  iintro ⟨#HR, #Hlev, HO, ⟨HT0, HT1, HT2⟩, ⟨HG0, HG1, HG2⟩, HcB, HatB, HT, HRcv, ⟨HK0, HV0, HK1, HV1, HK2, HV2, HK3, HV3⟩, ⟨Hs0, Hs1, Hs2, Hs3⟩, Hx, Hwq, Hwo, Hout, Hk⟩
  iterate 16
    (try sl_exec
     iapply (wp_issue m 0 c 0 f0 (by decide) ?hs ?hd ?hsm) $$ HK0
     case hs => exact sMem_eq 0 c 0 _ _ _ (ClosedOff.eq.trans rfl)
     case hd => rfl
     case hsm => rfl
     iintro HK0
     try sl_exec
     iapply (wp_issue m 1 c 0 f1 (by decide) ?hs ?hd ?hsm) $$ HV0
     case hs => exact sMem_eq 1 c 0 _ _ _ (ClosedOff.eq.trans rfl)
     case hd => rfl
     case hsm => rfl
     iintro HV0)
  iterate 16
    (try sl_exec
     iapply (wp_issue m 0 c 1 f0 (by decide) ?hs ?hd ?hsm) $$ HK1
     case hs => exact sMem_eq 0 c 1 _ _ _ (ClosedOff.eq.trans rfl)
     case hd => rfl
     case hsm => rfl
     iintro HK1
     try sl_exec
     iapply (wp_issue m 1 c 1 f1 (by decide) ?hs ?hd ?hsm) $$ HV1
     case hs => exact sMem_eq 1 c 1 _ _ _ (ClosedOff.eq.trans rfl)
     case hd => rfl
     case hsm => rfl
     iintro HV1)
  iterate 16
    (try sl_exec
     iapply (wp_issue m 0 c 2 f0 (by decide) ?hs ?hd ?hsm) $$ HK2
     case hs => exact sMem_eq 0 c 2 _ _ _ (ClosedOff.eq.trans rfl)
     case hd => rfl
     case hsm => rfl
     iintro HK2
     try sl_exec
     iapply (wp_issue m 1 c 2 f1 (by decide) ?hs ?hd ?hsm) $$ HV2
     case hs => exact sMem_eq 1 c 2 _ _ _ (ClosedOff.eq.trans rfl)
     case hd => rfl
     case hsm => rfl
     iintro HV2)
  iterate 16
    (try sl_exec
     iapply (wp_issue m 0 c 3 f0 (by decide) ?hs ?hd ?hsm) $$ HK3
     case hs => exact sMem_eq 0 c 3 _ _ _ (ClosedOff.eq.trans rfl)
     case hd => rfl
     case hsm => rfl
     iintro HK3
     try sl_exec
     iapply (wp_issue m 1 c 3 f1 (by decide) ?hs ?hd ?hsm) $$ HV3
     case hs => exact sMem_eq 1 c 3 _ _ _ (ClosedOff.eq.trans rfl)
     case hd => rfl
     case hsm => rfl
     iintro HV3)
  try sl_exec
  iapply (wp_sig m K c 0 _ ?hn ?hsem) $$ [HO HT0 HG0]
  case hn => exact Fin.ext (k0_dev1_eq c)
  case hsem => rfl
  · isplitr; · iexact HR
    isplitl [HO]; · iexact HO
    isplitl [HT0]; · iexact HT0
    iexact HG0
  iintro HO
  try sl_exec
  iapply (wp_sig m K c 1 _ ?hn ?hsem) $$ [HO HT1 HG1]
  case hn => exact Fin.ext (k0_dev2_eq c)
  case hsem => rfl
  · isplitr; · iexact HR
    isplitl [HO]; · iexact HO
    isplitl [HT1]; · iexact HT1
    iexact HG1
  iintro HO
  try sl_exec
  iapply (wp_sig m K c 2 _ ?hn ?hsem) $$ [HO HT2 HG2]
  case hn => exact Fin.ext (k0_dev3_eq c)
  case hsem => rfl
  · isplitr; · iexact HR
    isplitl [HO]; · iexact HO
    isplitl [HT2]; · iexact HT2
    iexact HG2
  iintro HO
  try sl_exec
  iapply (wp_bar m K c allX ?hsem) $$ [HO HcB HatB]
  case hsem => rfl
  · isplitr; · iexact HR
    isplitr; · iexact Hlev
    isplitl [HO]; · iexact HO
    isplitl [HcB]; · iexact HcB
    iexact HatB
  iintro ⟨HO, HP, HZ⟩
  ihave HS := (snd_intro c) $$ [HT HP]
  · isplitl [HT]; · iexact HT
    iexact HP
  unfold allX
  ihave Hout := (OutSt_init m c g1) $$ Hout
  try sl_exec
  iapply (wp_loadX m c) $$ Hx
  iintro Hx
  first | sl_exec | (iapply (wp_goOn c _); try sl_exec) | skip
  iapply (wp_loadWq m c) $$ Hwq
  iintro Hwq
  iterate 15
    (first | sl_exec | (iapply (wp_goOn c _); try sl_exec) | skip
     iapply (wp_drain m 0 c 0 f0 (by decide) _ ?hN ?hsm) $$ HK0 HO Hlev
     case hN => rfl
     case hsm => rfl
     iintro ⟨HK0, HO⟩
     first | sl_exec | (iapply (wp_goOn c _); try sl_exec) | skip
     iapply (wp_drain m 1 c 0 f1 (by decide) _ ?hN ?hsm) $$ HV0 HO Hlev
     case hN => rfl
     case hsm => rfl
     iintro ⟨HV0, HO⟩)
  first | sl_exec | (iapply (wp_goOn c _); try sl_exec) | skip
  iapply (wp_drainLast m 0 c 0 f0 _ ?hN ?hsm) $$ HK0 HO Hlev
  case hN => rfl
  case hsm => rfl
  iintro ⟨HK0, HKs0, HKv0, HO⟩
  first | sl_exec | (iapply (wp_goOn c _); try sl_exec) | skip
  iapply (wp_drainLast m 1 c 0 f1 _ ?hN ?hsm) $$ HV0 HO Hlev
  case hN => rfl
  case hsm => rfl
  iintro ⟨HV0, HVs0, HVv0, HO⟩
  first | sl_exec | (iapply (wp_goOn c _); try sl_exec) | skip
  iapply (wp_loadHead m 0 c 0 0 ?hdm ?hoff) $$ HK0
  case hdm => rfl
  case hoff => rfl
  iintro HK0
  first | sl_exec | (iapply (wp_goOn c _); try sl_exec) | skip
  iapply (wp_loadHead m 1 c 0 0 ?hdm ?hoff) $$ HV0
  case hdm => rfl
  case hoff => rfl
  iintro HV0
  first | sl_exec | (iapply (wp_goOn c _); try sl_exec) | skip
  iapply (wp_loadHead m 0 c 0 1 ?hdm ?hoff) $$ HK0
  case hdm => rfl
  case hoff => rfl
  iintro HK0
  first | sl_exec | (iapply (wp_goOn c _); try sl_exec) | skip
  iapply (wp_loadHead m 1 c 0 1 ?hdm ?hoff) $$ HV0
  case hdm => rfl
  case hoff => rfl
  iintro HV0
  first | sl_exec | (iapply (wp_goOn c _); try sl_exec) | skip
  iapply (wp_loadHead m 0 c 0 2 ?hdm ?hoff) $$ HK0
  case hdm => rfl
  case hoff => rfl
  iintro HK0
  first | sl_exec | (iapply (wp_goOn c _); try sl_exec) | skip
  iapply (wp_loadHead m 1 c 0 2 ?hdm ?hoff) $$ HV0
  case hdm => rfl
  case hoff => rfl
  iintro HV0
  first | sl_exec | (iapply (wp_goOn c _); try sl_exec) | skip
  iapply (wp_loadHead m 0 c 0 3 ?hdm ?hoff) $$ HK0
  case hdm => rfl
  case hoff => rfl
  iintro HK0
  first | sl_exec | (iapply (wp_goOn c _); try sl_exec) | skip
  iapply (wp_loadHead m 1 c 0 3 ?hdm ?hoff) $$ HV0
  case hdm => rfl
  case hoff => rfl
  iintro HV0
  first | sl_exec | (iapply (wp_goOn c _); try sl_exec) | skip
  iapply (wp_loadHead m 0 c 0 4 ?hdm ?hoff) $$ HK0
  case hdm => rfl
  case hoff => rfl
  iintro HK0
  first | sl_exec | (iapply (wp_goOn c _); try sl_exec) | skip
  iapply (wp_loadHead m 1 c 0 4 ?hdm ?hoff) $$ HV0
  case hdm => rfl
  case hoff => rfl
  iintro HV0
  first | sl_exec | (iapply (wp_goOn c _); try sl_exec) | skip
  iapply (wp_loadHead m 0 c 0 5 ?hdm ?hoff) $$ HK0
  case hdm => rfl
  case hoff => rfl
  iintro HK0
  first | sl_exec | (iapply (wp_goOn c _); try sl_exec) | skip
  iapply (wp_loadHead m 1 c 0 5 ?hdm ?hoff) $$ HV0
  case hdm => rfl
  case hoff => rfl
  iintro HV0
  first | sl_exec | (iapply (wp_goOn c _); try sl_exec) | skip
  iapply (wp_loadHead m 0 c 0 6 ?hdm ?hoff) $$ HK0
  case hdm => rfl
  case hoff => rfl
  iintro HK0
  first | sl_exec | (iapply (wp_goOn c _); try sl_exec) | skip
  iapply (wp_loadHead m 1 c 0 6 ?hdm ?hoff) $$ HV0
  case hdm => rfl
  case hoff => rfl
  iintro HV0
  first | sl_exec | (iapply (wp_goOn c _); try sl_exec) | skip
  iapply (wp_loadHead m 0 c 0 7 ?hdm ?hoff) $$ HK0
  case hdm => rfl
  case hoff => rfl
  iintro HK0
  first | sl_exec | (iapply (wp_goOn c _); try sl_exec) | skip
  iapply (wp_loadHead m 1 c 0 7 ?hdm ?hoff) $$ HV0
  case hdm => rfl
  case hoff => rfl
  iintro HV0
  first | sl_exec | (iapply (wp_goOn c _); try sl_exec) | skip
  iapply (wp_loadWo m c) $$ Hwo
  iintro Hwo
  first | sl_exec | (iapply (wp_goOn c _); try sl_exec) | skip
  iapply (wp_loadSlotAny c 0 0 fullShare g0 ?hoff) $$ Hs0
  case hoff => rfl
  iintro %w0 Hs0
  first | sl_exec | (iapply (wp_goOn c _); try sl_exec) | skip
  iapply (wp_storeSlot m c 0 g0 ?hoff ?hw) $$ Hs0
  case hoff => rfl
  case hw => rfl
  iintro Hs0
  ihave Hs0 := (Entails.of_eq (slot_split c 0 (CMb m c))) $$ Hs0
  icases Hs0 with ⟨Hl00, Hl01, Hl02, Hs0⟩
  first | sl_exec | (iapply (wp_goOn c _); try sl_exec) | skip
  iapply (wp_snd m K c 0 0 _ ?hn ?hs ?hd ?hsS ?hsR) $$ [HO HS Hl00]
  case hn => exact Fin.ext (k0_dev4_eq c)
  case hs => rfl
  case hd => rfl
  case hsS => rfl
  case hsR => rfl
  · isplitr; · iexact HR
    isplitl [HO]; · iexact HO
    isplitl [HS]; · iexact HS
    iexact Hl00
  iintro ⟨HO, HS, HC00⟩
  first | sl_exec | (iapply (wp_goOn c _); try sl_exec) | skip
  iapply (wp_snd m K c 0 1 _ ?hn ?hs ?hd ?hsS ?hsR) $$ [HO HS Hl01]
  case hn => exact Fin.ext (k0_dev5_eq c)
  case hs => rfl
  case hd => rfl
  case hsS => rfl
  case hsR => rfl
  · isplitr; · iexact HR
    isplitl [HO]; · iexact HO
    isplitl [HS]; · iexact HS
    iexact Hl01
  iintro ⟨HO, HS, HC01⟩
  first | sl_exec | (iapply (wp_goOn c _); try sl_exec) | skip
  iapply (wp_snd m K c 0 2 _ ?hn ?hs ?hd ?hsS ?hsR) $$ [HO HS Hl02]
  case hn => exact Fin.ext (k0_dev6_eq c)
  case hs => rfl
  case hd => rfl
  case hsS => rfl
  case hsR => rfl
  · isplitr; · iexact HR
    isplitl [HO]; · iexact HO
    isplitl [HS]; · iexact HS
    iexact Hl02
  iintro ⟨HO, HS, HC02⟩
  iterate 15
    (first | sl_exec | (iapply (wp_goOn c _); try sl_exec) | skip
     iapply (wp_drain m 0 c 1 f0 (by decide) _ ?hN ?hsm) $$ HK1 HO Hlev
     case hN => rfl
     case hsm => rfl
     iintro ⟨HK1, HO⟩
     first | sl_exec | (iapply (wp_goOn c _); try sl_exec) | skip
     iapply (wp_drain m 1 c 1 f1 (by decide) _ ?hN ?hsm) $$ HV1 HO Hlev
     case hN => rfl
     case hsm => rfl
     iintro ⟨HV1, HO⟩)
  first | sl_exec | (iapply (wp_goOn c _); try sl_exec) | skip
  iapply (wp_drainLast m 0 c 1 f0 _ ?hN ?hsm) $$ HK1 HO Hlev
  case hN => rfl
  case hsm => rfl
  iintro ⟨HK1, HKs1, HKv1, HO⟩
  first | sl_exec | (iapply (wp_goOn c _); try sl_exec) | skip
  iapply (wp_drainLast m 1 c 1 f1 _ ?hN ?hsm) $$ HV1 HO Hlev
  case hN => rfl
  case hsm => rfl
  iintro ⟨HV1, HVs1, HVv1, HO⟩
  first | sl_exec | (iapply (wp_goOn c _); try sl_exec) | skip
  iapply (wp_loadHead m 0 c 1 0 ?hdm ?hoff) $$ HK1
  case hdm => rfl
  case hoff => rfl
  iintro HK1
  first | sl_exec | (iapply (wp_goOn c _); try sl_exec) | skip
  iapply (wp_loadHead m 1 c 1 0 ?hdm ?hoff) $$ HV1
  case hdm => rfl
  case hoff => rfl
  iintro HV1
  first | sl_exec | (iapply (wp_goOn c _); try sl_exec) | skip
  iapply (wp_loadHead m 0 c 1 1 ?hdm ?hoff) $$ HK1
  case hdm => rfl
  case hoff => rfl
  iintro HK1
  first | sl_exec | (iapply (wp_goOn c _); try sl_exec) | skip
  iapply (wp_loadHead m 1 c 1 1 ?hdm ?hoff) $$ HV1
  case hdm => rfl
  case hoff => rfl
  iintro HV1
  first | sl_exec | (iapply (wp_goOn c _); try sl_exec) | skip
  iapply (wp_loadHead m 0 c 1 2 ?hdm ?hoff) $$ HK1
  case hdm => rfl
  case hoff => rfl
  iintro HK1
  first | sl_exec | (iapply (wp_goOn c _); try sl_exec) | skip
  iapply (wp_loadHead m 1 c 1 2 ?hdm ?hoff) $$ HV1
  case hdm => rfl
  case hoff => rfl
  iintro HV1
  first | sl_exec | (iapply (wp_goOn c _); try sl_exec) | skip
  iapply (wp_loadHead m 0 c 1 3 ?hdm ?hoff) $$ HK1
  case hdm => rfl
  case hoff => rfl
  iintro HK1
  first | sl_exec | (iapply (wp_goOn c _); try sl_exec) | skip
  iapply (wp_loadHead m 1 c 1 3 ?hdm ?hoff) $$ HV1
  case hdm => rfl
  case hoff => rfl
  iintro HV1
  first | sl_exec | (iapply (wp_goOn c _); try sl_exec) | skip
  iapply (wp_loadHead m 0 c 1 4 ?hdm ?hoff) $$ HK1
  case hdm => rfl
  case hoff => rfl
  iintro HK1
  first | sl_exec | (iapply (wp_goOn c _); try sl_exec) | skip
  iapply (wp_loadHead m 1 c 1 4 ?hdm ?hoff) $$ HV1
  case hdm => rfl
  case hoff => rfl
  iintro HV1
  first | sl_exec | (iapply (wp_goOn c _); try sl_exec) | skip
  iapply (wp_loadHead m 0 c 1 5 ?hdm ?hoff) $$ HK1
  case hdm => rfl
  case hoff => rfl
  iintro HK1
  first | sl_exec | (iapply (wp_goOn c _); try sl_exec) | skip
  iapply (wp_loadHead m 1 c 1 5 ?hdm ?hoff) $$ HV1
  case hdm => rfl
  case hoff => rfl
  iintro HV1
  first | sl_exec | (iapply (wp_goOn c _); try sl_exec) | skip
  iapply (wp_loadHead m 0 c 1 6 ?hdm ?hoff) $$ HK1
  case hdm => rfl
  case hoff => rfl
  iintro HK1
  first | sl_exec | (iapply (wp_goOn c _); try sl_exec) | skip
  iapply (wp_loadHead m 1 c 1 6 ?hdm ?hoff) $$ HV1
  case hdm => rfl
  case hoff => rfl
  iintro HV1
  first | sl_exec | (iapply (wp_goOn c _); try sl_exec) | skip
  iapply (wp_loadHead m 0 c 1 7 ?hdm ?hoff) $$ HK1
  case hdm => rfl
  case hoff => rfl
  iintro HK1
  first | sl_exec | (iapply (wp_goOn c _); try sl_exec) | skip
  iapply (wp_loadHead m 1 c 1 7 ?hdm ?hoff) $$ HV1
  case hdm => rfl
  case hoff => rfl
  iintro HV1
  first | sl_exec | (iapply (wp_goOn c _); try sl_exec) | skip
  iapply (wp_loadWo m c) $$ Hwo
  iintro Hwo
  first | sl_exec | (iapply (wp_goOn c _); try sl_exec) | skip
  iapply (wp_loadSlotAny c 1 0 fullShare g0 ?hoff) $$ Hs1
  case hoff => rfl
  iintro %w1 Hs1
  first | sl_exec | (iapply (wp_goOn c _); try sl_exec) | skip
  iapply (wp_storeSlot m c 1 g0 ?hoff ?hw) $$ Hs1
  case hoff => rfl
  case hw => rfl
  iintro Hs1
  ihave Hs1 := (Entails.of_eq (slot_split c 1 (CMb m c))) $$ Hs1
  icases Hs1 with ⟨Hl10, Hl11, Hl12, Hs1⟩
  first | sl_exec | (iapply (wp_goOn c _); try sl_exec) | skip
  iapply (wp_snd m K c 1 0 _ ?hn ?hs ?hd ?hsS ?hsR) $$ [HO HS Hl10]
  case hn => exact Fin.ext (k0_dev7_eq c)
  case hs => rfl
  case hd => rfl
  case hsS => rfl
  case hsR => rfl
  · isplitr; · iexact HR
    isplitl [HO]; · iexact HO
    isplitl [HS]; · iexact HS
    iexact Hl10
  iintro ⟨HO, HS, HC10⟩
  first | sl_exec | (iapply (wp_goOn c _); try sl_exec) | skip
  iapply (wp_snd m K c 1 1 _ ?hn ?hs ?hd ?hsS ?hsR) $$ [HO HS Hl11]
  case hn => exact Fin.ext (k0_dev8_eq c)
  case hs => rfl
  case hd => rfl
  case hsS => rfl
  case hsR => rfl
  · isplitr; · iexact HR
    isplitl [HO]; · iexact HO
    isplitl [HS]; · iexact HS
    iexact Hl11
  iintro ⟨HO, HS, HC11⟩
  first | sl_exec | (iapply (wp_goOn c _); try sl_exec) | skip
  iapply (wp_snd m K c 1 2 _ ?hn ?hs ?hd ?hsS ?hsR) $$ [HO HS Hl12]
  case hn => exact Fin.ext (k0_dev9_eq c)
  case hs => rfl
  case hd => rfl
  case hsS => rfl
  case hsR => rfl
  · isplitr; · iexact HR
    isplitl [HO]; · iexact HO
    isplitl [HS]; · iexact HS
    iexact Hl12
  iintro ⟨HO, HS, HC12⟩
  iterate 15
    (first | sl_exec | (iapply (wp_goOn c _); try sl_exec) | skip
     iapply (wp_drain m 0 c 2 f0 (by decide) _ ?hN ?hsm) $$ HK2 HO Hlev
     case hN => rfl
     case hsm => rfl
     iintro ⟨HK2, HO⟩
     first | sl_exec | (iapply (wp_goOn c _); try sl_exec) | skip
     iapply (wp_drain m 1 c 2 f1 (by decide) _ ?hN ?hsm) $$ HV2 HO Hlev
     case hN => rfl
     case hsm => rfl
     iintro ⟨HV2, HO⟩)
  first | sl_exec | (iapply (wp_goOn c _); try sl_exec) | skip
  iapply (wp_drainLast m 0 c 2 f0 _ ?hN ?hsm) $$ HK2 HO Hlev
  case hN => rfl
  case hsm => rfl
  iintro ⟨HK2, HKs2, HKv2, HO⟩
  first | sl_exec | (iapply (wp_goOn c _); try sl_exec) | skip
  iapply (wp_drainLast m 1 c 2 f1 _ ?hN ?hsm) $$ HV2 HO Hlev
  case hN => rfl
  case hsm => rfl
  iintro ⟨HV2, HVs2, HVv2, HO⟩
  first | sl_exec | (iapply (wp_goOn c _); try sl_exec) | skip
  iapply (wp_loadHead m 0 c 2 0 ?hdm ?hoff) $$ HK2
  case hdm => rfl
  case hoff => rfl
  iintro HK2
  first | sl_exec | (iapply (wp_goOn c _); try sl_exec) | skip
  iapply (wp_loadHead m 1 c 2 0 ?hdm ?hoff) $$ HV2
  case hdm => rfl
  case hoff => rfl
  iintro HV2
  first | sl_exec | (iapply (wp_goOn c _); try sl_exec) | skip
  iapply (wp_loadHead m 0 c 2 1 ?hdm ?hoff) $$ HK2
  case hdm => rfl
  case hoff => rfl
  iintro HK2
  first | sl_exec | (iapply (wp_goOn c _); try sl_exec) | skip
  iapply (wp_loadHead m 1 c 2 1 ?hdm ?hoff) $$ HV2
  case hdm => rfl
  case hoff => rfl
  iintro HV2
  first | sl_exec | (iapply (wp_goOn c _); try sl_exec) | skip
  iapply (wp_loadHead m 0 c 2 2 ?hdm ?hoff) $$ HK2
  case hdm => rfl
  case hoff => rfl
  iintro HK2
  first | sl_exec | (iapply (wp_goOn c _); try sl_exec) | skip
  iapply (wp_loadHead m 1 c 2 2 ?hdm ?hoff) $$ HV2
  case hdm => rfl
  case hoff => rfl
  iintro HV2
  first | sl_exec | (iapply (wp_goOn c _); try sl_exec) | skip
  iapply (wp_loadHead m 0 c 2 3 ?hdm ?hoff) $$ HK2
  case hdm => rfl
  case hoff => rfl
  iintro HK2
  first | sl_exec | (iapply (wp_goOn c _); try sl_exec) | skip
  iapply (wp_loadHead m 1 c 2 3 ?hdm ?hoff) $$ HV2
  case hdm => rfl
  case hoff => rfl
  iintro HV2
  first | sl_exec | (iapply (wp_goOn c _); try sl_exec) | skip
  iapply (wp_loadHead m 0 c 2 4 ?hdm ?hoff) $$ HK2
  case hdm => rfl
  case hoff => rfl
  iintro HK2
  first | sl_exec | (iapply (wp_goOn c _); try sl_exec) | skip
  iapply (wp_loadHead m 1 c 2 4 ?hdm ?hoff) $$ HV2
  case hdm => rfl
  case hoff => rfl
  iintro HV2
  first | sl_exec | (iapply (wp_goOn c _); try sl_exec) | skip
  iapply (wp_loadHead m 0 c 2 5 ?hdm ?hoff) $$ HK2
  case hdm => rfl
  case hoff => rfl
  iintro HK2
  first | sl_exec | (iapply (wp_goOn c _); try sl_exec) | skip
  iapply (wp_loadHead m 1 c 2 5 ?hdm ?hoff) $$ HV2
  case hdm => rfl
  case hoff => rfl
  iintro HV2
  first | sl_exec | (iapply (wp_goOn c _); try sl_exec) | skip
  iapply (wp_loadHead m 0 c 2 6 ?hdm ?hoff) $$ HK2
  case hdm => rfl
  case hoff => rfl
  iintro HK2
  first | sl_exec | (iapply (wp_goOn c _); try sl_exec) | skip
  iapply (wp_loadHead m 1 c 2 6 ?hdm ?hoff) $$ HV2
  case hdm => rfl
  case hoff => rfl
  iintro HV2
  first | sl_exec | (iapply (wp_goOn c _); try sl_exec) | skip
  iapply (wp_loadHead m 0 c 2 7 ?hdm ?hoff) $$ HK2
  case hdm => rfl
  case hoff => rfl
  iintro HK2
  first | sl_exec | (iapply (wp_goOn c _); try sl_exec) | skip
  iapply (wp_loadHead m 1 c 2 7 ?hdm ?hoff) $$ HV2
  case hdm => rfl
  case hoff => rfl
  iintro HV2
  first | sl_exec | (iapply (wp_goOn c _); try sl_exec) | skip
  iapply (wp_loadWo m c) $$ Hwo
  iintro Hwo
  first | sl_exec | (iapply (wp_goOn c _); try sl_exec) | skip
  iapply (wp_loadSlotAny c 2 0 fullShare g0 ?hoff) $$ Hs2
  case hoff => rfl
  iintro %w2 Hs2
  first | sl_exec | (iapply (wp_goOn c _); try sl_exec) | skip
  iapply (wp_storeSlot m c 2 g0 ?hoff ?hw) $$ Hs2
  case hoff => rfl
  case hw => rfl
  iintro Hs2
  ihave Hs2 := (Entails.of_eq (slot_split c 2 (CMb m c))) $$ Hs2
  icases Hs2 with ⟨Hl20, Hl21, Hl22, Hs2⟩
  first | sl_exec | (iapply (wp_goOn c _); try sl_exec) | skip
  iapply (wp_snd m K c 2 0 _ ?hn ?hs ?hd ?hsS ?hsR) $$ [HO HS Hl20]
  case hn => exact Fin.ext (k0_dev10_eq c)
  case hs => rfl
  case hd => rfl
  case hsS => rfl
  case hsR => rfl
  · isplitr; · iexact HR
    isplitl [HO]; · iexact HO
    isplitl [HS]; · iexact HS
    iexact Hl20
  iintro ⟨HO, HS, HC20⟩
  first | sl_exec | (iapply (wp_goOn c _); try sl_exec) | skip
  iapply (wp_snd m K c 2 1 _ ?hn ?hs ?hd ?hsS ?hsR) $$ [HO HS Hl21]
  case hn => exact Fin.ext (k0_dev11_eq c)
  case hs => rfl
  case hd => rfl
  case hsS => rfl
  case hsR => rfl
  · isplitr; · iexact HR
    isplitl [HO]; · iexact HO
    isplitl [HS]; · iexact HS
    iexact Hl21
  iintro ⟨HO, HS, HC21⟩
  first | sl_exec | (iapply (wp_goOn c _); try sl_exec) | skip
  iapply (wp_snd m K c 2 2 _ ?hn ?hs ?hd ?hsS ?hsR) $$ [HO HS Hl22]
  case hn => exact Fin.ext (k0_dev12_eq c)
  case hs => rfl
  case hd => rfl
  case hsS => rfl
  case hsR => rfl
  · isplitr; · iexact HR
    isplitl [HO]; · iexact HO
    isplitl [HS]; · iexact HS
    iexact Hl22
  iintro ⟨HO, HS, HC22⟩
  iterate 15
    (first | sl_exec | (iapply (wp_goOn c _); try sl_exec) | skip
     iapply (wp_drain m 0 c 3 f0 (by decide) _ ?hN ?hsm) $$ HK3 HO Hlev
     case hN => rfl
     case hsm => rfl
     iintro ⟨HK3, HO⟩
     first | sl_exec | (iapply (wp_goOn c _); try sl_exec) | skip
     iapply (wp_drain m 1 c 3 f1 (by decide) _ ?hN ?hsm) $$ HV3 HO Hlev
     case hN => rfl
     case hsm => rfl
     iintro ⟨HV3, HO⟩)
  first | sl_exec | (iapply (wp_goOn c _); try sl_exec) | skip
  iapply (wp_drainLast m 0 c 3 f0 _ ?hN ?hsm) $$ HK3 HO Hlev
  case hN => rfl
  case hsm => rfl
  iintro ⟨HK3, HKs3, HKv3, HO⟩
  first | sl_exec | (iapply (wp_goOn c _); try sl_exec) | skip
  iapply (wp_drainLast m 1 c 3 f1 _ ?hN ?hsm) $$ HV3 HO Hlev
  case hN => rfl
  case hsm => rfl
  iintro ⟨HV3, HVs3, HVv3, HO⟩
  first | sl_exec | (iapply (wp_goOn c _); try sl_exec) | skip
  iapply (wp_loadHead m 0 c 3 0 ?hdm ?hoff) $$ HK3
  case hdm => rfl
  case hoff => rfl
  iintro HK3
  first | sl_exec | (iapply (wp_goOn c _); try sl_exec) | skip
  iapply (wp_loadHead m 1 c 3 0 ?hdm ?hoff) $$ HV3
  case hdm => rfl
  case hoff => rfl
  iintro HV3
  first | sl_exec | (iapply (wp_goOn c _); try sl_exec) | skip
  iapply (wp_loadHead m 0 c 3 1 ?hdm ?hoff) $$ HK3
  case hdm => rfl
  case hoff => rfl
  iintro HK3
  first | sl_exec | (iapply (wp_goOn c _); try sl_exec) | skip
  iapply (wp_loadHead m 1 c 3 1 ?hdm ?hoff) $$ HV3
  case hdm => rfl
  case hoff => rfl
  iintro HV3
  first | sl_exec | (iapply (wp_goOn c _); try sl_exec) | skip
  iapply (wp_loadHead m 0 c 3 2 ?hdm ?hoff) $$ HK3
  case hdm => rfl
  case hoff => rfl
  iintro HK3
  first | sl_exec | (iapply (wp_goOn c _); try sl_exec) | skip
  iapply (wp_loadHead m 1 c 3 2 ?hdm ?hoff) $$ HV3
  case hdm => rfl
  case hoff => rfl
  iintro HV3
  first | sl_exec | (iapply (wp_goOn c _); try sl_exec) | skip
  iapply (wp_loadHead m 0 c 3 3 ?hdm ?hoff) $$ HK3
  case hdm => rfl
  case hoff => rfl
  iintro HK3
  first | sl_exec | (iapply (wp_goOn c _); try sl_exec) | skip
  iapply (wp_loadHead m 1 c 3 3 ?hdm ?hoff) $$ HV3
  case hdm => rfl
  case hoff => rfl
  iintro HV3
  first | sl_exec | (iapply (wp_goOn c _); try sl_exec) | skip
  iapply (wp_loadHead m 0 c 3 4 ?hdm ?hoff) $$ HK3
  case hdm => rfl
  case hoff => rfl
  iintro HK3
  first | sl_exec | (iapply (wp_goOn c _); try sl_exec) | skip
  iapply (wp_loadHead m 1 c 3 4 ?hdm ?hoff) $$ HV3
  case hdm => rfl
  case hoff => rfl
  iintro HV3
  first | sl_exec | (iapply (wp_goOn c _); try sl_exec) | skip
  iapply (wp_loadHead m 0 c 3 5 ?hdm ?hoff) $$ HK3
  case hdm => rfl
  case hoff => rfl
  iintro HK3
  first | sl_exec | (iapply (wp_goOn c _); try sl_exec) | skip
  iapply (wp_loadHead m 1 c 3 5 ?hdm ?hoff) $$ HV3
  case hdm => rfl
  case hoff => rfl
  iintro HV3
  first | sl_exec | (iapply (wp_goOn c _); try sl_exec) | skip
  iapply (wp_loadHead m 0 c 3 6 ?hdm ?hoff) $$ HK3
  case hdm => rfl
  case hoff => rfl
  iintro HK3
  first | sl_exec | (iapply (wp_goOn c _); try sl_exec) | skip
  iapply (wp_loadHead m 1 c 3 6 ?hdm ?hoff) $$ HV3
  case hdm => rfl
  case hoff => rfl
  iintro HV3
  first | sl_exec | (iapply (wp_goOn c _); try sl_exec) | skip
  iapply (wp_loadHead m 0 c 3 7 ?hdm ?hoff) $$ HK3
  case hdm => rfl
  case hoff => rfl
  iintro HK3
  first | sl_exec | (iapply (wp_goOn c _); try sl_exec) | skip
  iapply (wp_loadHead m 1 c 3 7 ?hdm ?hoff) $$ HV3
  case hdm => rfl
  case hoff => rfl
  iintro HV3
  first | sl_exec | (iapply (wp_goOn c _); try sl_exec) | skip
  iapply (wp_loadWo m c) $$ Hwo
  iintro Hwo
  first | sl_exec | (iapply (wp_goOn c _); try sl_exec) | skip
  iapply (wp_loadSlotAny c 3 0 fullShare g0 ?hoff) $$ Hs3
  case hoff => rfl
  iintro %w3 Hs3
  first | sl_exec | (iapply (wp_goOn c _); try sl_exec) | skip
  iapply (wp_storeSlot m c 3 g0 ?hoff ?hw) $$ Hs3
  case hoff => rfl
  case hw => rfl
  iintro Hs3
  ihave Hs3 := (Entails.of_eq (slot_split c 3 (CMb m c))) $$ Hs3
  icases Hs3 with ⟨Hl30, Hl31, Hl32, Hs3⟩
  first | sl_exec | (iapply (wp_goOn c _); try sl_exec) | skip
  iapply (wp_snd m K c 3 0 _ ?hn ?hs ?hd ?hsS ?hsR) $$ [HO HS Hl30]
  case hn => exact Fin.ext (k0_dev13_eq c)
  case hs => rfl
  case hd => rfl
  case hsS => rfl
  case hsR => rfl
  · isplitr; · iexact HR
    isplitl [HO]; · iexact HO
    isplitl [HS]; · iexact HS
    iexact Hl30
  iintro ⟨HO, HS, HC30⟩
  first | sl_exec | (iapply (wp_goOn c _); try sl_exec) | skip
  iapply (wp_snd m K c 3 1 _ ?hn ?hs ?hd ?hsS ?hsR) $$ [HO HS Hl31]
  case hn => exact Fin.ext (k0_dev14_eq c)
  case hs => rfl
  case hd => rfl
  case hsS => rfl
  case hsR => rfl
  · isplitr; · iexact HR
    isplitl [HO]; · iexact HO
    isplitl [HS]; · iexact HS
    iexact Hl31
  iintro ⟨HO, HS, HC31⟩
  first | sl_exec | (iapply (wp_goOn c _); try sl_exec) | skip
  iapply (wp_snd m K c 3 2 _ ?hn ?hs ?hd ?hsS ?hsR) $$ [HO HS Hl32]
  case hn => exact Fin.ext (k0_dev15_eq c)
  case hs => rfl
  case hd => rfl
  case hsS => rfl
  case hsR => rfl
  · isplitr; · iexact HR
    isplitl [HO]; · iexact HO
    isplitl [HS]; · iexact HS
    iexact Hl32
  iintro ⟨HO, HS, HC32⟩
  first | sl_exec | (iapply (wp_goOn c _); try sl_exec) | skip
  iapply (wp_rcv m K c 0 0 _ ?hN ?hsm) $$ [HO HRcv]
  case hN => rfl
  case hsm => rfl
  · isplitr; · iexact HR
    isplitl [HO]; · iexact HO
    iexact HRcv
  iintro ⟨HO, HRcv, HD00, HDv00⟩
  first | sl_exec | (iapply (wp_goOn c _); try sl_exec) | skip
  iapply (wp_rcv m K c 0 1 _ ?hN ?hsm) $$ [HO HRcv]
  case hN => rfl
  case hsm => rfl
  · isplitr; · iexact HR
    isplitl [HO]; · iexact HO
    iexact HRcv
  iintro ⟨HO, HRcv, HD01, HDv01⟩
  first | sl_exec | (iapply (wp_goOn c _); try sl_exec) | skip
  iapply (wp_rcv m K c 0 2 _ ?hN ?hsm) $$ [HO HRcv]
  case hN => rfl
  case hsm => rfl
  · isplitr; · iexact HR
    isplitl [HO]; · iexact HO
    iexact HRcv
  iintro ⟨HO, HRcv, HD02, HDv02⟩
  first | sl_exec | (iapply (wp_goOn c _); try sl_exec) | skip
  iapply (wp_loadSlot m c 0 0 keepQ ?hoff) $$ Hs0
  case hoff => rfl
  iintro Hs0
  first | sl_exec | (iapply (wp_goOn c _); try sl_exec) | skip
  iapply (wp_loadSlot m c 0 (Fin.succ 0) fullShare ?hoff) $$ HD00
  case hoff => rfl
  iintro HD00
  first | sl_exec | (iapply (wp_goOn c _); try sl_exec) | skip
  iapply (wp_loadSlot m c 0 (Fin.succ 1) fullShare ?hoff) $$ HD01
  case hoff => rfl
  iintro HD01
  first | sl_exec | (iapply (wp_goOn c _); try sl_exec) | skip
  iapply (wp_loadSlot m c 0 (Fin.succ 2) fullShare ?hoff) $$ HD02
  case hoff => rfl
  iintro HD02
  first | sl_exec | (iapply (wp_goOn c _); try sl_exec) | skip
  iapply (wp_loadOut m c 0) $$ Hout
  iintro %o0 Hout
  first | sl_exec | (iapply (wp_goOn c _); try sl_exec) | skip
  iapply (wp_storeOut m c 0 (n := 0) (n' := 1) rfl rfl ?hoff ?hw) $$ Hout
  case hoff => rfl
  case hw => rfl
  iintro Hout
  first | sl_exec | (iapply (wp_goOn c _); try sl_exec) | skip
  iapply (wp_rcv m K c 1 0 _ ?hN ?hsm) $$ [HO HRcv]
  case hN => rfl
  case hsm => rfl
  · isplitr; · iexact HR
    isplitl [HO]; · iexact HO
    iexact HRcv
  iintro ⟨HO, HRcv, HD10, HDv10⟩
  first | sl_exec | (iapply (wp_goOn c _); try sl_exec) | skip
  iapply (wp_rcv m K c 1 1 _ ?hN ?hsm) $$ [HO HRcv]
  case hN => rfl
  case hsm => rfl
  · isplitr; · iexact HR
    isplitl [HO]; · iexact HO
    iexact HRcv
  iintro ⟨HO, HRcv, HD11, HDv11⟩
  first | sl_exec | (iapply (wp_goOn c _); try sl_exec) | skip
  iapply (wp_rcv m K c 1 2 _ ?hN ?hsm) $$ [HO HRcv]
  case hN => rfl
  case hsm => rfl
  · isplitr; · iexact HR
    isplitl [HO]; · iexact HO
    iexact HRcv
  iintro ⟨HO, HRcv, HD12, HDv12⟩
  first | sl_exec | (iapply (wp_goOn c _); try sl_exec) | skip
  iapply (wp_loadSlot m c 1 0 keepQ ?hoff) $$ Hs1
  case hoff => rfl
  iintro Hs1
  first | sl_exec | (iapply (wp_goOn c _); try sl_exec) | skip
  iapply (wp_loadSlot m c 1 (Fin.succ 0) fullShare ?hoff) $$ HD10
  case hoff => rfl
  iintro HD10
  first | sl_exec | (iapply (wp_goOn c _); try sl_exec) | skip
  iapply (wp_loadSlot m c 1 (Fin.succ 1) fullShare ?hoff) $$ HD11
  case hoff => rfl
  iintro HD11
  first | sl_exec | (iapply (wp_goOn c _); try sl_exec) | skip
  iapply (wp_loadSlot m c 1 (Fin.succ 2) fullShare ?hoff) $$ HD12
  case hoff => rfl
  iintro HD12
  first | sl_exec | (iapply (wp_goOn c _); try sl_exec) | skip
  iapply (wp_loadOut m c 1) $$ Hout
  iintro %o1 Hout
  first | sl_exec | (iapply (wp_goOn c _); try sl_exec) | skip
  iapply (wp_storeOut m c 1 (n := 1) (n' := 2) rfl rfl ?hoff ?hw) $$ Hout
  case hoff => rfl
  case hw => rfl
  iintro Hout
  first | sl_exec | (iapply (wp_goOn c _); try sl_exec) | skip
  iapply (wp_rcv m K c 2 0 _ ?hN ?hsm) $$ [HO HRcv]
  case hN => rfl
  case hsm => rfl
  · isplitr; · iexact HR
    isplitl [HO]; · iexact HO
    iexact HRcv
  iintro ⟨HO, HRcv, HD20, HDv20⟩
  first | sl_exec | (iapply (wp_goOn c _); try sl_exec) | skip
  iapply (wp_rcv m K c 2 1 _ ?hN ?hsm) $$ [HO HRcv]
  case hN => rfl
  case hsm => rfl
  · isplitr; · iexact HR
    isplitl [HO]; · iexact HO
    iexact HRcv
  iintro ⟨HO, HRcv, HD21, HDv21⟩
  first | sl_exec | (iapply (wp_goOn c _); try sl_exec) | skip
  iapply (wp_rcv m K c 2 2 _ ?hN ?hsm) $$ [HO HRcv]
  case hN => rfl
  case hsm => rfl
  · isplitr; · iexact HR
    isplitl [HO]; · iexact HO
    iexact HRcv
  iintro ⟨HO, HRcv, HD22, HDv22⟩
  first | sl_exec | (iapply (wp_goOn c _); try sl_exec) | skip
  iapply (wp_loadSlot m c 2 0 keepQ ?hoff) $$ Hs2
  case hoff => rfl
  iintro Hs2
  first | sl_exec | (iapply (wp_goOn c _); try sl_exec) | skip
  iapply (wp_loadSlot m c 2 (Fin.succ 0) fullShare ?hoff) $$ HD20
  case hoff => rfl
  iintro HD20
  first | sl_exec | (iapply (wp_goOn c _); try sl_exec) | skip
  iapply (wp_loadSlot m c 2 (Fin.succ 1) fullShare ?hoff) $$ HD21
  case hoff => rfl
  iintro HD21
  first | sl_exec | (iapply (wp_goOn c _); try sl_exec) | skip
  iapply (wp_loadSlot m c 2 (Fin.succ 2) fullShare ?hoff) $$ HD22
  case hoff => rfl
  iintro HD22
  first | sl_exec | (iapply (wp_goOn c _); try sl_exec) | skip
  iapply (wp_loadOut m c 2) $$ Hout
  iintro %o2 Hout
  first | sl_exec | (iapply (wp_goOn c _); try sl_exec) | skip
  iapply (wp_storeOut m c 2 (n := 2) (n' := 3) rfl rfl ?hoff ?hw) $$ Hout
  case hoff => rfl
  case hw => rfl
  iintro Hout
  first | sl_exec | (iapply (wp_goOn c _); try sl_exec) | skip
  iapply (wp_rcv m K c 3 0 _ ?hN ?hsm) $$ [HO HRcv]
  case hN => rfl
  case hsm => rfl
  · isplitr; · iexact HR
    isplitl [HO]; · iexact HO
    iexact HRcv
  iintro ⟨HO, HRcv, HD30, HDv30⟩
  first | sl_exec | (iapply (wp_goOn c _); try sl_exec) | skip
  iapply (wp_rcv m K c 3 1 _ ?hN ?hsm) $$ [HO HRcv]
  case hN => rfl
  case hsm => rfl
  · isplitr; · iexact HR
    isplitl [HO]; · iexact HO
    iexact HRcv
  iintro ⟨HO, HRcv, HD31, HDv31⟩
  first | sl_exec | (iapply (wp_goOn c _); try sl_exec) | skip
  iapply (wp_rcv m K c 3 2 _ ?hN ?hsm) $$ [HO HRcv]
  case hN => rfl
  case hsm => rfl
  · isplitr; · iexact HR
    isplitl [HO]; · iexact HO
    iexact HRcv
  iintro ⟨HO, HRcv, HD32, HDv32⟩
  first | sl_exec | (iapply (wp_goOn c _); try sl_exec) | skip
  iapply (wp_loadSlot m c 3 0 keepQ ?hoff) $$ Hs3
  case hoff => rfl
  iintro Hs3
  first | sl_exec | (iapply (wp_goOn c _); try sl_exec) | skip
  iapply (wp_loadSlot m c 3 (Fin.succ 0) fullShare ?hoff) $$ HD30
  case hoff => rfl
  iintro HD30
  first | sl_exec | (iapply (wp_goOn c _); try sl_exec) | skip
  iapply (wp_loadSlot m c 3 (Fin.succ 1) fullShare ?hoff) $$ HD31
  case hoff => rfl
  iintro HD31
  first | sl_exec | (iapply (wp_goOn c _); try sl_exec) | skip
  iapply (wp_loadSlot m c 3 (Fin.succ 2) fullShare ?hoff) $$ HD32
  case hoff => rfl
  iintro HD32
  first | sl_exec | (iapply (wp_goOn c _); try sl_exec) | skip
  iapply (wp_loadOut m c 3) $$ Hout
  iintro %o3 Hout
  first | sl_exec | (iapply (wp_goOn c _); try sl_exec) | skip
  iapply (wp_storeOut m c 3 (n := 3) (n' := 4) rfl rfl ?hoff ?hw) $$ Hout
  case hoff => rfl
  case hw => rfl
  iintro Hout
  first | sl_exec | (iapply (wp_goOn c _); try sl_exec) | skip
  iapply (wp_sent m K c 0 0 ?hN ?hsm) $$ [HO HC00]
  case hN => rfl
  case hsm => rfl
  · isplitr; · iexact HR
    isplitl [HO]; · iexact HO
    iexact HC00
  iintro ⟨HO, Hl00, HCv00⟩
  first | sl_exec | (iapply (wp_goOn c _); try sl_exec) | skip
  iapply (wp_sent m K c 0 1 ?hN ?hsm) $$ [HO HC01]
  case hN => rfl
  case hsm => rfl
  · isplitr; · iexact HR
    isplitl [HO]; · iexact HO
    iexact HC01
  iintro ⟨HO, Hl01, HCv01⟩
  first | sl_exec | (iapply (wp_goOn c _); try sl_exec) | skip
  iapply (wp_sent m K c 0 2 ?hN ?hsm) $$ [HO HC02]
  case hN => rfl
  case hsm => rfl
  · isplitr; · iexact HR
    isplitl [HO]; · iexact HO
    iexact HC02
  iintro ⟨HO, Hl02, HCv02⟩
  first | sl_exec | (iapply (wp_goOn c _); try sl_exec) | skip
  iapply (wp_sent m K c 1 0 ?hN ?hsm) $$ [HO HC10]
  case hN => rfl
  case hsm => rfl
  · isplitr; · iexact HR
    isplitl [HO]; · iexact HO
    iexact HC10
  iintro ⟨HO, Hl10, HCv10⟩
  first | sl_exec | (iapply (wp_goOn c _); try sl_exec) | skip
  iapply (wp_sent m K c 1 1 ?hN ?hsm) $$ [HO HC11]
  case hN => rfl
  case hsm => rfl
  · isplitr; · iexact HR
    isplitl [HO]; · iexact HO
    iexact HC11
  iintro ⟨HO, Hl11, HCv11⟩
  first | sl_exec | (iapply (wp_goOn c _); try sl_exec) | skip
  iapply (wp_sent m K c 1 2 ?hN ?hsm) $$ [HO HC12]
  case hN => rfl
  case hsm => rfl
  · isplitr; · iexact HR
    isplitl [HO]; · iexact HO
    iexact HC12
  iintro ⟨HO, Hl12, HCv12⟩
  first | sl_exec | (iapply (wp_goOn c _); try sl_exec) | skip
  iapply (wp_sent m K c 2 0 ?hN ?hsm) $$ [HO HC20]
  case hN => rfl
  case hsm => rfl
  · isplitr; · iexact HR
    isplitl [HO]; · iexact HO
    iexact HC20
  iintro ⟨HO, Hl20, HCv20⟩
  first | sl_exec | (iapply (wp_goOn c _); try sl_exec) | skip
  iapply (wp_sent m K c 2 1 ?hN ?hsm) $$ [HO HC21]
  case hN => rfl
  case hsm => rfl
  · isplitr; · iexact HR
    isplitl [HO]; · iexact HO
    iexact HC21
  iintro ⟨HO, Hl21, HCv21⟩
  first | sl_exec | (iapply (wp_goOn c _); try sl_exec) | skip
  iapply (wp_sent m K c 2 2 ?hN ?hsm) $$ [HO HC22]
  case hN => rfl
  case hsm => rfl
  · isplitr; · iexact HR
    isplitl [HO]; · iexact HO
    iexact HC22
  iintro ⟨HO, Hl22, HCv22⟩
  first | sl_exec | (iapply (wp_goOn c _); try sl_exec) | skip
  iapply (wp_sent m K c 3 0 ?hN ?hsm) $$ [HO HC30]
  case hN => rfl
  case hsm => rfl
  · isplitr; · iexact HR
    isplitl [HO]; · iexact HO
    iexact HC30
  iintro ⟨HO, Hl30, HCv30⟩
  first | sl_exec | (iapply (wp_goOn c _); try sl_exec) | skip
  iapply (wp_sent m K c 3 1 ?hN ?hsm) $$ [HO HC31]
  case hN => rfl
  case hsm => rfl
  · isplitr; · iexact HR
    isplitl [HO]; · iexact HO
    iexact HC31
  iintro ⟨HO, Hl31, HCv31⟩
  first | sl_exec | (iapply (wp_goOn c _); try sl_exec) | skip
  iapply (wp_sent m K c 3 2 ?hN ?hsm) $$ [HO HC32]
  case hN => rfl
  case hsm => rfl
  · isplitr; · iexact HR
    isplitl [HO]; · iexact HO
    iexact HC32
  iintro ⟨HO, Hl32, HCv32⟩
  first | sl_exec | skip
  iclear HS HRcv
  ihave HK0 := (end_kv m 0 c 0) $$ HK0 HKs0 HKv0
  ihave HV0 := (end_kv m 1 c 0) $$ HV0 HVs0 HVv0
  ihave Hs0 := (end_slots m c 0) $$ Hl00 Hl01 Hl02 Hs0 HD00 HD01 HD02
  ihave HD0 := (end_three (F := F) _ _ _) $$ HDv00 HDv01 HDv02
  ihave HC0 := (end_three (F := F) _ _ _) $$ HCv00 HCv01 HCv02
  ihave HE0 := (end_row m c 0 rfl) $$ HK0 HV0 Hs0 HD0 HC0
  ihave HK1 := (end_kv m 0 c 1) $$ HK1 HKs1 HKv1
  ihave HV1 := (end_kv m 1 c 1) $$ HV1 HVs1 HVv1
  ihave Hs1 := (end_slots m c 1) $$ Hl10 Hl11 Hl12 Hs1 HD10 HD11 HD12
  ihave HD1 := (end_three (F := F) _ _ _) $$ HDv10 HDv11 HDv12
  ihave HC1 := (end_three (F := F) _ _ _) $$ HCv10 HCv11 HCv12
  ihave HE1 := (end_row m c 1 rfl) $$ HK1 HV1 Hs1 HD1 HC1
  ihave HK2 := (end_kv m 0 c 2) $$ HK2 HKs2 HKv2
  ihave HV2 := (end_kv m 1 c 2) $$ HV2 HVs2 HVv2
  ihave Hs2 := (end_slots m c 2) $$ Hl20 Hl21 Hl22 Hs2 HD20 HD21 HD22
  ihave HD2 := (end_three (F := F) _ _ _) $$ HDv20 HDv21 HDv22
  ihave HC2 := (end_three (F := F) _ _ _) $$ HCv20 HCv21 HCv22
  ihave HE2 := (end_row m c 2 rfl) $$ HK2 HV2 Hs2 HD2 HC2
  ihave HK3 := (end_kv m 0 c 3) $$ HK3 HKs3 HKv3
  ihave HV3 := (end_kv m 1 c 3) $$ HV3 HVs3 HVv3
  ihave Hs3 := (end_slots m c 3) $$ Hl30 Hl31 Hl32 Hs3 HD30 HD31 HD32
  ihave HD3 := (end_three (F := F) _ _ _) $$ HDv30 HDv31 HDv32
  ihave HC3 := (end_three (F := F) _ _ _) $$ HCv30 HCv31 HCv32
  ihave HE3 := (end_row m c 3 rfl) $$ HK3 HV3 Hs3 HD3 HC3
  ihave Hout := (OutSt_done m c) $$ Hout
  rw [wp_ret]
  imodintro
  iapply Hk
  unfold bodyOut
  isplitl [HO]; · iexact HO
  isplitl [HE0 HE1 HE2 HE3]
  · isplitl [HE0]; · iexact HE0
    isplitl [HE1]; · iexact HE1
    isplitl [HE2] <;> iassumption
  isplitl [Hx]; · iexact Hx
  isplitl [Hwq]; · iexact Hwq
  isplitl [Hwo]; · iexact Hwo
  isplitl [Hout] <;> iassumption

end Cert.KProof
-- ==== Proof.Split.lean ====
/-
# `Split`: the buffers cut into the pieces the copies move, and put together again
-/
module

public import proofs.«01_k».proof.Proof.Body

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## A buffer in pieces -/

theorem pts_pieces {ℓ : Loc nD τ sig} {I : Type} [Fintype I] [DecidableEq I] (Kp : I → Finset (Idx ℓ)) (hd : ∀ p q, p ≠ q → Disjoint (Kp p) (Kp q))
    (hc : Finset.univ.biUnion Kp = Finset.univ) (q : PosShare TreeShare) (f : Buf (Elt F) ℓ) :
    (ℓ ↦{q} f : sProp 𝕄) = bigSep Finset.univ fun p => ℓ ↦[Kp p]{q} f := by
  have h := pointsTo_biUnion (ℓ := ℓ) (q := q) (f := f) (Ix := Unit) (Name := ℕ) (U := UU) (Lvl := ℕ) Finset.univ Kp fun p _ q _ h => hd p q h
  rw [hc] at h
  exact h

theorem pts_join {ℓ : Loc nD τ sig} {I : Type} [Fintype I] [DecidableEq I] (Kp : I → Finset (Idx ℓ)) (hd : ∀ p q, p ≠ q → Disjoint (Kp p) (Kp q))
    (q : PosShare TreeShare) (f : Buf (Elt F) ℓ) :
    (ℓ ↦{q} f : sProp 𝕄) = iprop((bigSep Finset.univ fun p => ℓ ↦[Kp p]{q} f) ∗ ℓ ↦[Finset.univ \ Finset.univ.biUnion Kp]{q} f) := by
  have h := pointsTo_biUnion (ℓ := ℓ) (q := q) (f := f) (Ix := Unit) (Name := ℕ) (U := UU) (Lvl := ℕ) Finset.univ Kp fun p _ q _ h => hd p q h
  have h' : (ℓ ↦{q} f : sProp 𝕄) ⊣⊢ iprop((ℓ ↦[Finset.univ.biUnion Kp]{q} f) ∗ ℓ ↦[Finset.univ \ Finset.univ.biUnion Kp]{q} f) :=
    pointsTo_split_subset (Finset.subset_univ _)
  rw [← h]
  exact BI.Entails.antisymm h'.1 h'.2

/-! ## The local copies' pieces -/

abbrev Pc : Type := Fin 4 × Fin 16

def srcSet (s : Fin 2) (c : Dev nD) (p : Pc) : Finset (Idx ((srcA s).view.loc (c : Thread nD τ))) := (sMem s c p.1 p.2).view.set
def dstSet (s : Fin 2) (c : Dev nD) (p : Pc) : Finset (Idx ((dstB s).view.loc (c : Thread nD τ))) := (dMem s p.1 p.2).view.set

theorem sMem_set (s : Fin 2) (c : Dev nD) (ci : Fin 4) (sb : Fin 16) : (sMem s c ci sb).view.set = (srcA s).view.setOn (sRect c ci sb).set := by
  show ((((srcA s).view.slice (sRect c ci sb)).reshape S64x8x128 _).set) = _
  rw [View.set_reshape, View.set_slice]
  rfl

theorem sRect_disjoint (c : Dev nD) (p q : Pc) (h : p ≠ q) : Disjoint (sRect c p.1 p.2).set (sRect c q.1 q.2).set := by
  have h3 : 4 * p.2.val + p.1.val ≠ 4 * q.2.val + q.1.val := fun h3 => h <| by
    have := p.1.isLt; have := q.1.isLt
    exact Prod.ext (Fin.ext (by omega)) (Fin.ext (by omega))
  refine Rect.unit_disjoint 1 ?_
  show 64 * (4 * p.2.val + p.1.val) + 64 ≤ 64 * (4 * q.2.val + q.1.val) ∨ 64 * (4 * q.2.val + q.1.val) + 64 ≤ 64 * (4 * p.2.val + p.1.val)
  omega

theorem srcSet_disjoint (s : Fin 2) (c : Dev nD) (p q : Pc) (h : p ≠ q) : Disjoint (srcSet s c p) (srcSet s c q) := by
  unfold srcSet
  rw [sMem_set, sMem_set]
  exact (Finset.disjoint_map _).mpr (sRect_disjoint c p q h)
theorem dstSet_disjoint (s : Fin 2) (c : Dev nD) (p q : Pc) (h : p ≠ q) : Disjoint (dstSet s c p) (dstSet s c q) :=
  dMem_disjoint s p q h

theorem dstB_univ (s : Fin 2) : (dstB s).view.set = Finset.univ := by
  match s with
  | 0 => exact View.set_whole _
  | 1 => exact View.set_whole _

theorem dstSet_cover (s : Fin 2) (c : Dev nD) : Finset.univ.biUnion (dstSet s c) = Finset.univ := by
  refine Finset.eq_univ_iff_forall.mpr fun i => ?_
  have hi : i ∈ (dstB s).view.set := by rw [dstB_univ]; exact Finset.mem_univ i
  obtain ⟨j, hj, rfl⟩ := Finset.mem_map.mp hi
  have h0 : (j 0).val < 4 := (j 0).isLt
  have h1 : (j 1).val < 1024 := (j 1).isLt
  have h2 : (j 2).val < 8 := (j 2).isLt
  have h3 : (j 3).val < 128 := (j 3).isLt
  refine Finset.mem_biUnion.mpr ⟨(⟨(j 0).val, h0⟩, ⟨(j 1).val / 64, by omega⟩), Finset.mem_univ _, ?_⟩
  unfold dstSet
  rw [dMem_set]
  refine Finset.mem_map.mpr ⟨j, ?_, rfl⟩
  rw [Rect.mem_set_unit]
  intro a
  fin_cases a
  · show (j 0).val ≤ (j 0).val ∧ (j 0).val < (j 0).val + 1; omega
  · show 64 * ((j 1).val / 64) ≤ (j 1).val ∧ (j 1).val < 64 * ((j 1).val / 64) + 64; omega
  · show 0 ≤ (j 2).val ∧ (j 2).val < 0 + 8; omega
  · show 0 ≤ (j 3).val ∧ (j 3).val < 0 + 128; omega

/-- What of a key (value) array no copy of the device reads. -/
def srcRest (s : Fin 2) (c : Dev nD) : sProp 𝕄 :=
  (srcA s).view.loc (c : Thread nD τ) ↦[Finset.univ \ Finset.univ.biUnion (srcSet s c)]{fullShare} srcF m s c

theorem src_split (s : Fin 2) (c : Dev nD) :
    ((srcA s).view.loc (c : Thread nD τ) ↦{fullShare} srcF m s c : sProp 𝕄)
      = iprop((bigSep Finset.univ fun ci : Fin 4 => SrcBack m s c ci) ∗ srcRest m s c) := by
  have h := pts_join (F := F) (srcSet s c) (srcSet_disjoint s c) fullShare (srcF m s c)
  rw [bigSep_univ_prod] at h
  exact h

theorem dst_split (s : Fin 2) (c : Dev nD) (f : Buf (Elt F) ((dstB s).view.loc (c : Thread nD τ))) :
    ((dstB s).view.loc (c : Thread nD τ) ↦{fullShare} f : sProp 𝕄)
      = bigSep Finset.univ fun ci : Fin 4 => bigSep Finset.univ fun t : Fin 16 => dPts s c ci t f := by
  have h := pts_pieces (F := F) (dstSet s c) (dstSet_disjoint s c) (dstSet_cover s c) fullShare f
  rw [bigSep_univ_prod] at h
  exact h

theorem dst_join (s : Fin 2) (c : Dev nD) :
    (bigSep Finset.univ fun ci : Fin 4 => Slab m s c ci)
      = ((dstB s).view.loc (c : Thread nD τ) ↦{fullShare} kvF m s c : sProp 𝕄) := (dst_split s c (kvF m s c)).symm

/-! ## The exchange buffer's slots -/

def slotSet (c : Dev nD) (p : Fin 4 × Fin 4) : Finset (Idx ((c : Thread nD τ).loc cc0_scratch2)) := (slotM p.1 p.2).view.set

theorem cRect_disjoint (p q : Fin 4 × Fin 4) (h : p ≠ q) : Disjoint (cRect p.1 p.2).set (cRect q.1 q.2).set := by
  by_cases h1 : p.1 = q.1
  · have h3 : p.2.val ≠ q.2.val := fun h3 => h (Prod.ext h1 (Fin.ext h3))
    refine Rect.unit_disjoint 1 ?_
    show p.2.val + 1 ≤ q.2.val ∨ q.2.val + 1 ≤ p.2.val
    omega
  · have h3 : p.1.val ≠ q.1.val := fun h3 => h1 (Fin.ext h3)
    refine Rect.unit_disjoint 0 ?_
    show p.1.val + 1 ≤ q.1.val ∨ q.1.val + 1 ≤ p.1.val
    omega

theorem slotSet_disjoint (c : Dev nD) (p q : Fin 4 × Fin 4) (h : p ≠ q) : Disjoint (slotSet c p) (slotSet c q) := by
  unfold slotSet
  rw [slot_set, slot_set]
  exact (Finset.disjoint_map _).mpr (cRect_disjoint p q h)

theorem slotSet_cover (c : Dev nD) : Finset.univ.biUnion (slotSet c) = Finset.univ := by
  refine Finset.eq_univ_iff_forall.mpr fun i => ?_
  have hi : i ∈ cM.view.set := by rw [show cM.view.set = Finset.univ from View.set_whole _]; exact Finset.mem_univ i
  obtain ⟨j, hj, rfl⟩ := Finset.mem_map.mp hi
  have h0 : (j 0).val < 4 := (j 0).isLt
  have h1 : (j 1).val < 4 := (j 1).isLt
  have h2 : (j 2).val < 64 := (j 2).isLt
  have h3 : (j 3).val < 1024 := (j 3).isLt
  refine Finset.mem_biUnion.mpr ⟨(⟨(j 0).val, h0⟩, ⟨(j 1).val, h1⟩), Finset.mem_univ _, ?_⟩
  unfold slotSet
  rw [slot_set]
  refine Finset.mem_map.mpr ⟨j, ?_, rfl⟩
  rw [Rect.mem_set_unit]
  intro a
  fin_cases a
  · show (j 0).val ≤ (j 0).val ∧ (j 0).val < (j 0).val + 1; omega
  · show (j 1).val ≤ (j 1).val ∧ (j 1).val < (j 1).val + 1; omega
  · show 0 ≤ (j 2).val ∧ (j 2).val < 0 + 64; omega
  · show 0 ≤ (j 3).val ∧ (j 3).val < 0 + 1024; omega

theorem fin4_eq (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin3_eq (Φ : Fin 3 → sProp 𝕄) : bigSep Finset.univ Φ = iprop(Φ 0 ∗ Φ 1 ∗ Φ 2) :=
  bigSep_univ_eq_bigSepL [0, 1, 2] (by decide) (by decide) Φ
theorem fin2_eq (Φ : Fin 2 → sProp 𝕄) : bigSep Finset.univ Φ = iprop(Φ 0 ∗ Φ 1) :=
  bigSep_univ_eq_bigSepL [0, 1] (by decide) (by decide) Φ

theorem slots_split (c : Dev nD) (f : Buf (Elt F) ((c : Thread nD τ).loc cc0_scratch2)) :
    ((c : Thread nD τ).loc cc0_scratch2 ↦{fullShare} f : sProp 𝕄)
      = bigSep Finset.univ fun k : Fin 4 => iprop(slotPts c k 0 fullShare f ∗ slotPts c k 1 fullShare f ∗ slotPts c k 2 fullShare f ∗ slotPts c k 3 fullShare f) := by
  have h := pts_pieces (F := F) (slotSet c) (slotSet_disjoint c) (slotSet_cover c) fullShare f
  rw [bigSep_univ_prod] at h
  exact h.trans (bigSep_congr fun k _ => fin4_eq fun j => slotPts c k j fullShare f)

/-- The slots the three others send into, per device that sends. -/
theorem gives_intro (c : Dev nD) (f : Buf (Elt F) ((c : Thread nD τ).loc cc0_scratch2)) :
    ((c : Thread nD τ).loc cc0_scratch2 ↦{fullShare} f : sProp 𝕄)
      ⊢ iprop((Give (F := F) c 0 ∗ Give (F := F) c 1 ∗ Give (F := F) c 2) ∗ bigSep Finset.univ fun k : Fin 4 => slotPts c k 0 fullShare f) := by
  have hs : ∀ (k : Fin 4) (d : Fin 3), slotPts (F := F) c k d.rev.succ fullShare f ⊢ iprop(∃ f, slotPts (F := F) c k d.rev.succ fullShare f) := fun k d => by
    iintro H; iexists f; iexact H
  have hg : ∀ d : Fin 3, (bigSep Finset.univ fun k : Fin 4 => slotPts (F := F) c k d.rev.succ fullShare f) ⊢ Give (F := F) c d := fun d => by
    unfold Give
    exact bigSep_mono fun k _ => hs k d
  rw [slots_split]
  simp only [bsep_sep]
  iintro ⟨H0, H1, H2, H3⟩
  isplitr [H0]
  · isplitl [H3]; · iapply (hg 0); iexact H3
    isplitl [H2]; · iapply (hg 1); iexact H2
    iapply (hg 2); iexact H1
  iexact H0

end Cert.KProof
-- ==== Proof.Ghost.lean ====
/-
# `Ghost`: the cells, positions, tokens and credits the devices start from
-/
module

public import proofs.«01_k».proof.Proof.Split

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Sums of resources, regrouped -/

theorem bsep_comm {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]
  rfl

/-- A family over the devices and some index, each index's devices renamed by a permutation. -/
theorem bsep_shift {J : Type} [Fintype J] (e : J → (Dev nD ≃ Dev nD)) (Φ : Dev nD → J → sProp 𝕄) :
    (bigSep Finset.univ fun c => bigSep Finset.univ fun j => Φ c j) = bigSep Finset.univ fun c => bigSep Finset.univ fun j => Φ (e j c) j := by
  rw [bsep_comm, bsep_comm (fun c j => Φ (e j c) j)]
  exact bigSep_congr fun j _ => bigSep_univ_equiv (e j) fun c => Φ c j

theorem bsep_option {I : Type} [Fintype I] (Φ : Option I → sProp 𝕄) :
    bigSep Finset.univ Φ = iprop((bigSep Finset.univ fun x => Φ (some x)) ∗ Φ none) := by
  refine (bigSep_univ_equiv (Equiv.optionEquivSumPUnit.{0, 0} I).symm Φ).trans ((bigSep_univ_sum _).trans ?_)
  rw [show (Finset.univ : Finset PUnit) = {PUnit.unit} from rfl, bigSep_singleton]
  rfl

theorem bsep_xi (Φ : XI → sProp 𝕄) :
    bigSep Finset.univ Φ = iprop((bigSep Finset.univ fun x : XK => Φ (0, x)) ∗ bigSep Finset.univ fun x : XK => Φ (1, x)) := by
  rw [bigSep_univ_prod]
  exact fin2_eq fun t => bigSep Finset.univ fun x : XK => Φ (t, x)

/-! ## The cells and the tokens minted -/

abbrev KV : Type := Fin 2 × Fin 4

/-- The semaphores of the kernel's own. -/
def osem : KV ⊕ XI → SemLoc sig
  | .inl p => .dma (kvS p.1 p.2)
  | .inr x => .dma (xferS x)
theorem ownSemFacts : Pipeline.OwnSemFacts cfg0.spec osem := by decide

theorem kcell_injective : Function.Injective (kcell : Dev nD × Option XI → GSem nD τ sig) := by
  rintro ⟨c, k⟩ ⟨c', k'⟩ h
  have h1 : c = c' := congrArg (fun g : GSem nD τ sig => g.1.1) h
  have h2 : csem k = csem k' := congrArg Prod.snd h
  have h3 : k = k' := by
    match k, k', h2 with
    | none, none, _ => rfl
    | none, some x, h2 => exact absurd h2.symm (xfer_ne_bar x)
    | some x, none, h2 => exact absurd h2 (xfer_ne_bar x)
    | some x, some y, h2 => exact (xdec_xferS x).symm.trans ((congrArg xdec h2).trans (xdec_xferS y))
  exact Prod.ext h1 h3
def allCells : Finset (GSem nD τ sig) := Finset.univ.map ⟨kcell, kcell_injective⟩

/-- A device's tokens: the three of its barrier cell, the one of each send and receive cell. -/
abbrev tokOf (cj : Dev nD × (Fin 3 ⊕ XI)) : GSem nD τ sig × ℕ × Fin 3 := match cj.2 with
  | .inl d => (barCell cj.1, 0, d)
  | .inr x => (xCell cj.1 x, 0, 0)
theorem tokOf_injective : Function.Injective (tokOf : Dev nD × (Fin 3 ⊕ XI) → GSem nD τ sig × ℕ × Fin 3) := by
  rintro ⟨c, j⟩ ⟨c', j'⟩ h
  match j, j', h with
  | .inl d, .inl d', h =>
    exact Prod.ext (congrArg (fun x : GSem nD τ sig × ℕ × Fin 3 => x.1.1.1) h) (congrArg Sum.inl (congrArg (fun x : GSem nD τ sig × ℕ × Fin 3 => x.2.2) h))
  | .inl d, .inr x, h => exact absurd (congrArg (fun x : GSem nD τ sig × ℕ × Fin 3 => x.1.2) h).symm (xfer_ne_bar x)
  | .inr x, .inl d, h => exact absurd (congrArg (fun x : GSem nD τ sig × ℕ × Fin 3 => x.1.2) h) (xfer_ne_bar x)
  | .inr x, .inr y, h =>
    have hxy : x = y := Option.some.inj ((xdec_xferS x).symm.trans ((congrArg (fun z : GSem nD τ sig × ℕ × Fin 3 => xdec z.1.2) h).trans (xdec_xferS y)))
    exact Prod.ext (congrArg (fun x : GSem nD τ sig × ℕ × Fin 3 => x.1.1.1) h) (congrArg Sum.inr hxy)
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

def toks (c : Dev nD) : sProp 𝕄 :=
  iprop((bigSep Finset.univ fun d : Fin 3 => dutyTok ER (barCell c) 0 d) ∗ bigSep Finset.univ fun x : XI => dutyTok ER (xCell c x) 0 0)

/-- What the launch deals device `c`. -/
def G (c : Dev nD) : sProp 𝕄 :=
  iprop((bigSep Finset.univ fun k : Option XI => roundState ER (Rd m) (kcell (c, k)) 0)
    ∗ (bigSep Finset.univ fun k : Option XI => iprop(atPos ER (kcell (c, k)) 0 ∅ 0 ∗ reached ER (kcell (c, k)) 0)) ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option XI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; exact bigSep_univ_sum _
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bsep_sep]
  isplitl [Hst']; · iexact Hst'
  isplitl [Hat' Hr']
  · isplitl [Hat'] <;> iassumption
  iexact Htok'

/-! ## Every device's cells allocated, and the tokens dealt to who pays with them -/

def kvSems (c : Dev nD) : sProp 𝕄 := bigSep Finset.univ fun p : KV => semVal ((c : Thread nD τ), .dma (kvS p.1 p.2)) 0
def xSems (c : Dev nD) : sProp 𝕄 := bigSep Finset.univ fun x : XI => semVal (xCell c x) 0

theorem ownSems0_eq (c : Dev nD) : (Pipeline.ownSems0 (Ix := Unit) (Name := ℕ) (U := UU) (Lvl := ℕ) (Val := Elt F) (τ := τ) osem c : sProp 𝕄)
    = iprop(kvSems c ∗ xSems c) := by
  unfold Pipeline.ownSems0 kvSems xSems; exact bigSep_univ_sum _
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) : iprop(xSems c ∗ semVal (barCell c) 0) = (bigSep Finset.univ fun k : Option XI => semVal (kcell (c, k)) 0 : sProp 𝕄) :=
  (bsep_option fun k : Option XI => (semVal (kcell (c, k)) 0 : sProp 𝕄)).symm

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ kvSems c) := by
  unfold G
  rw [ownSems0_eq, unscopedSems0_eq]
  iintro ⟨⟨Hkv, Hx⟩, Hb, Hst, Hat, Htok⟩
  ihave Hv := (Entails.of_eq (sems0_eq (F := F) c)) $$ [Hx Hb]
  · isplitl [Hx] <;> iassumption
  imod (show iprop((bigSep Finset.univ fun k : Option XI => semVal (kcell (c, k)) 0) ∗ bigSep Finset.univ fun k : Option XI => roundState ER (Rd m) (kcell (c, k)) 0)
      ⊢ (|={Set.univ}=> bigSep Finset.univ fun k => iprop(∃ κ : ℕ, cellInv ER (Rd m) κ (kcell (c, k))) : sProp 𝕄) from by
        rw [← bsep_sep]
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens of the duties device `c` pays. -/
def payToks (c : Dev nD) : sProp 𝕄 :=
  iprop((bigSep Finset.univ fun d : Fin 3 => dutyTok ER (barCell (pr c d)) 0 d)
    ∗ (bigSep Finset.univ fun x : XK => dutyTok ER (sendCell c x) 0 0) ∗ bigSep Finset.univ fun x : XK => dutyTok ER (recvCell (pr c x.2) x) 0 0)
def linear (c : Dev nD) : sProp 𝕄 :=
  iprop(((bigSep Finset.univ fun k : Option XI => atPos ER (kcell (c, k)) 0 ∅ 0) ∗ payToks c) ∗ kvSems c)
/-- What the body of device `c` starts from, at some names. -/
def G' (c : Dev nD) : sProp 𝕄 := iprop(∃ K, records m K ∗ linear c)

theorem toks_around : (bigSep Finset.univ fun c : Dev nD => (toks c : sProp 𝕄)) = bigSep Finset.univ fun c : Dev nD => payToks c := by
  unfold toks payToks
  simp only [bsep_xi]
  rw [bsep_sep, bsep_sep, bsep_sep, bsep_sep]
  rw [bsep_shift around (fun c d => (dutyTok ER (barCell c) 0 d : sProp 𝕄)),
    bsep_shift (fun x : XK => around x.2) (fun c x => (dutyTok ER (recvCell c x) 0 0 : sProp 𝕄))]
  rfl

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans ?_ (bigSep_mono h)
  rw [bsep_sep]
  iintro ⟨#HR, H⟩
  isplitr [H]
  · iapply (BI.bigSep_of_persistent S R); iexact HR
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ kvSems c) : sProp 𝕄)
      ⊢ bigSep Finset.univ (G' m) := by
  have hintro : ∀ K, ∀ c ∈ (Finset.univ : Finset (Dev nD)), iprop(records m K ∗ linear c) ⊢ G' m c := fun K c _ => by
    unfold G'
    iintro H
    iexists K
    iexact H
  have hre : (bigSep Finset.univ fun c : Dev nD => bigSep Finset.univ fun k : Option XI => iprop(atPos ER (kcell (c, k)) 0 ∅ 0 ∗ reached ER (kcell (c, k)) 0) : sProp 𝕄)
      = iprop((bigSep Finset.univ fun c : Dev nD => bigSep Finset.univ fun k : Option XI => atPos ER (kcell (c, k)) 0 ∅ 0)
        ∗ bigSep Finset.univ fun ck : Dev nD × Option XI => reached ER (kcell ck) 0) := by
    rw [bigSep_univ_prod (fun ck : Dev nD × Option XI => (reached ER (kcell ck) 0 : sProp 𝕄)), ← bsep_sep]
    exact bigSep_congr fun c _ => bsep_sep _ _ _
  have hlin : (bigSep Finset.univ fun c : Dev nD => (linear c : sProp 𝕄))
      = iprop(((bigSep Finset.univ fun c : Dev nD => bigSep Finset.univ fun k : Option XI => atPos ER (kcell (c, k)) 0 ∅ 0) ∗ bigSep Finset.univ fun c : Dev nD => payToks c)
        ∗ bigSep Finset.univ fun c : Dev nD => kvSems c) := by
    unfold linear; rw [bsep_sep, bsep_sep]
  rw [bsep_sep, bsep_sep, bsep_sep, hre, toks_around, ← bigSep_univ_prod (fun ck : Dev nD × Option XI => iprop(∃ κ : ℕ, cellInv ER (Rd m) κ (kcell ck)))]
  iintro ⟨HI, ⟨Hat, #HR⟩, Htok, Hkv⟩
  ihave HK := (BI.bigSep_exists_pi Finset.univ (fun (ck : Dev nD × Option XI) (κ : ℕ) => (cellInv ER (Rd m) κ (kcell ck) : sProp 𝕄))) $$ HI
  icases HK with ⟨%K, #HI⟩
  iapply (with_records (R := records m K) (hintro K))
  isplitr
  · unfold records; isplitl; · iexact HI
    iexact HR
  rw [hlin]
  isplitl [Hat Htok]
  · isplitl [Hat] <;> iassumption
  iexact Hkv

/-- Every device's semaphores, its barrier's among them, made into cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe each cell at the launch -/

theorem bar_eq_iff {a b : Dev nD} : Iff (barCell a = barCell b) (a = b) :=
  ⟨fun h => congrArg (fun g : GSem nD τ sig => g.1.1) h, fun h => h ▸ rfl⟩
theorem recv_eq_iff {a b : Dev nD} {x y : XK} : Iff (recvCell a x = recvCell b y) (a = b ∧ x = y) := by
  constructor
  · intro h
    refine ⟨congrArg (fun g : GSem nD τ sig => g.1.1) h, ?_⟩
    have := (xdec_xferS (1, x)).symm.trans ((congrArg (fun g : GSem nD τ sig => xdec g.2) h).trans (xdec_xferS (1, y)))
    exact congrArg Prod.snd (Option.some.inj this)
  · rintro ⟨rfl, rfl⟩; rfl
theorem pr_eq_iff {c d : Dev nD} {e : Fin 3} : Iff (c = pr d e) (d = bk c e) :=
  ⟨fun h => by rw [h, bk_pr], fun h => by rw [h, pr_bk]⟩

theorem OL_bar (d c : Dev nD) (l : List XK) : OL d l (barCell c) () = 0 := by
  induction l with
  | nil => rfl
  | cons x l ih =>
    unfold OL
    rw [Pi.add_apply, Finsupp.add_apply, ih, tallyAt_ne_cell (fun h => xfer_ne_bar _ (congrArg Prod.snd h).symm)]
    rfl

theorem OL_recv (d c : Dev nD) (x : XK) (l : List XK) : OL d l (recvCell c x) () = l.count x * (if d = bk c x.2 then SN else 0) := by
  induction l with
  | nil => rw [List.count_nil, Nat.zero_mul]; rfl
  | cons y l ih =>
    unfold OL
    rw [Pi.add_apply, Finsupp.add_apply, ih, tallyAt_apply]
    by_cases hxy : x = y
    · subst hxy
      rw [List.count_cons_self, Nat.succ_mul]
      congr 1
      by_cases h : d = bk c x.2
      · rw [if_pos h, if_pos ⟨recv_eq_iff.mpr ⟨pr_eq_iff.mpr h, rfl⟩, rfl⟩]
      · rw [if_neg h, if_neg fun h' => h (pr_eq_iff.mp (recv_eq_iff.mp h'.1).1)]
    · have hn : ¬(recvCell c x = recvCell (pr d y.2) y ∧ () = ()) := fun h' => hxy (recv_eq_iff.mp h'.1).2
      rw [List.count_cons_of_ne (fun h => hxy h.symm), if_neg hn, Nat.add_zero]

theorem bar_amt (d c : Dev nD) (e : Fin 3) : (tallyAt (barCell (pr d e)) () 1 : CellTallies nD τ sig Unit) (barCell c) () = if d = bk c e then 1 else 0 := by
  rw [tallyAt_apply]
  by_cases h : d = bk c e
  · rw [if_pos h, if_pos ⟨bar_eq_iff.mpr (pr_eq_iff.mpr h), rfl⟩]
  · rw [if_neg h, if_neg fun h' => h (pr_eq_iff.mp (bar_eq_iff.mp h'.1))]

theorem owed_bar (d c : Dev nD) : O₀ d (barCell c) () = (if d = bk c 2 then 1 else 0) + (if d = bk c 1 then 1 else 0) + (if d = bk c 0 then 1 else 0) := by
  unfold O₀ O₁ O₂
  simp only [Pi.add_apply, Finsupp.add_apply]
  rw [OL_bar, bar_amt, bar_amt, bar_amt, Nat.zero_add]

theorem count_all (x : XK) : allX.count x = 1 := by revert x; decide

theorem owed_recv (d c : Dev nD) (x : XK) : O₀ d (recvCell c x) () = if d = bk c x.2 then SN else 0 := by
  unfold O₀ O₁ O₂
  simp only [Pi.add_apply, Finsupp.add_apply]
  rw [OL_recv, count_all, Nat.one_mul, tallyAt_ne_cell (fun h => xfer_ne_bar _ (congrArg Prod.snd h)), tallyAt_ne_cell (fun h => xfer_ne_bar _ (congrArg Prod.snd h)),
    tallyAt_ne_cell (fun h => xfer_ne_bar _ (congrArg Prod.snd h))]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (bk c 2) fun _ => 1, Finset.sum_ite_eq' Finset.univ (bk c 1) fun _ => 1, Finset.sum_ite_eq' Finset.univ (bk c 0) fun _ => 1,
    if_pos (Finset.mem_univ _), if_pos (Finset.mem_univ _), if_pos (Finset.mem_univ _)]

theorem launch_recv (c : Dev nD) (x : XK) :
    tallyOn (recvCell c x) (launchCredit (Pipeline.owing O₀) 0 (recvCell c x)) = (tallyAt (recvCell c x) () SN : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (bk c x.2) fun _ => SN,
    if_pos (Finset.mem_univ _)]

/-- The cells a device waits on for others: its barrier, its receive cells. -/
def waitSem : Option XK → SemLoc sig
  | none => .reg barS
  | some x => .dma (xferS (1, x))
theorem waitSem_injective : Function.Injective waitSem := by
  intro a b h
  match a, b, h with
  | none, none, _ => rfl
  | none, some x, h => exact absurd h.symm (xfer_ne_bar _)
  | some x, none, h => exact absurd h (xfer_ne_bar _)
  | some x, some y, h =>
    have := (xdec_xferS (1, x)).symm.trans ((congrArg xdec h).trans (xdec_xferS (1, y)))
    exact congrArg some (congrArg Prod.snd (Option.some.inj this))

def creds (c : Dev nD) : sProp 𝕄 :=
  iprop((bigSep Finset.univ fun x : XK => cred (tallyAt (recvCell c x) () SN)) ∗ cred (tallyAt (barCell c) () 3))

theorem creds_intro (c : Dev nD) : (Pipeline.launchCred O₀ c : sProp 𝕄) ⊢ creds c := by
  unfold Pipeline.launchCred creds
  refine BIBase.Entails.trans (bigSep_subset (Finset.subset_univ (Finset.univ.map ⟨waitSem, waitSem_injective⟩))) ?_
  rw [bigSep_map, bsep_option]
  refine Entails.of_eq (PROP := sProp 𝕄) ?_
  show iprop((bigSep Finset.univ fun x : XK => cred (tallyOn (recvCell c x) (launchCredit (Pipeline.owing O₀) 0 (recvCell c x))))
    ∗ cred (tallyOn (barCell c) (launchCredit (Pipeline.owing O₀) 0 (barCell c)))) = _
  have hr : (bigSep Finset.univ fun x : XK => (cred (tallyOn (recvCell c x) (launchCredit (Pipeline.owing O₀) 0 (recvCell c x))) : sProp 𝕄))
      = bigSep Finset.univ fun x : XK => cred (tallyAt (recvCell c x) () SN) := bigSep_congr fun x _ => by rw [launch_recv]
  rw [launch_bar, hr]

end Cert.KProof
-- ==== Proof.Launch.lean ====
/-
# `Launch`: the kernel run on the four devices, from the launch to its end
-/
module

public import proofs.«01_k».proof.Proof.Ghost
public import proofs.«01_k».proof.Proof.Gen.KernelIdeal.Points
public import Idealize.ShloMosaic.Lib.Pipeline.CollectiveSegs

@[expose] public section

set_option backward.proofsInPublic true
set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's proof data -/

def arg2P (c : Dev nD) : sProp 𝕄 := (srcA 0).view.loc (c : Thread nD τ) ↦{fullShare} srcF m 0 c
def arg3P (c : Dev nD) : sProp 𝕄 := (srcA 1).view.loc (c : Thread nD τ) ↦{fullShare} srcF m 1 c
theorem arg2P_eq (c : Dev nD) : ((c : Thread nD τ).loc main_arg2 ↦{fullShare} m ((c : Thread nD τ).loc main_arg2) : sProp 𝕄) = arg2P m c := rfl
theorem arg3P_eq (c : Dev nD) : ((c : Thread nD τ).loc main_arg3 ↦{fullShare} m ((c : Thread nD τ).loc main_arg3) : sProp 𝕄) = arg3P m c := rfl
def scrs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device `c` starts from: its protocol state, its credits, the levels, and the keys and values its copies read. -/
def start (c : Dev nD) : sProp 𝕄 := iprop(G' m c ∗ creds c ∗ levAts L lv ∗ arg2P m c ∗ arg3P m c)
def Φ₀ (c : Dev nD) : sProp 𝕄 := iprop(start m c ∗ scrs c)
/-- After the body: the scratch buffers at something, every semaphore back at zero, keys and values as they were. -/
def Φ₁ (c : Dev nD) : sProp 𝕄 := iprop(scrs c ∗ (kvSems c ∗ xSems c) ∗ semVal (barCell c) 0 ∗ arg2P m c ∗ arg3P m c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Before and after the body -/

/-- The copies of one operand set up: its semaphores, its source and its destination cut into blocks. -/
theorem qs_init (s : Fin 2) (c : Dev nD) (f : Buf (Elt F) ((dstB s).view.loc (c : Thread nD τ))) :
    iprop((bigSep Finset.univ fun ci : Fin 4 => semVal ((c : Thread nD τ), .dma (kvS s ci)) 0)
        ∗ ((srcA s).view.loc (c : Thread nD τ) ↦{fullShare} srcF m s c) ∗ ((dstB s).view.loc (c : Thread nD τ) ↦{fullShare} f))
      ⊢ (iprop(|={Set.univ}=> ((Q m s c 0 f 0 0 ∗ Q m s c 1 f 0 0 ∗ Q m s c 2 f 0 0 ∗ Q m s c 3 f 0 0) ∗ srcRest m s c)) : sProp 𝕄) := by
  have h : (bigSep Finset.univ fun ci : Fin 4 => iprop(semVal ((c : Thread nD τ), .dma (kvS s ci)) 0 ∗ SrcBack m s c ci ∗ bigSep Finset.univ fun t : Fin 16 => dPts s c ci t f))
      ⊢ (iprop(|={Set.univ}=> bigSep Finset.univ fun ci : Fin 4 => Q m s c ci f 0 0) : sProp 𝕄) :=
    (bigSep_mono fun ci _ => Q_init m s c ci f).trans (bigSep_fupd _ _)
  rw [bsep_sep, bsep_sep, fin4_eq (fun ci => Q m s c ci f 0 0)] at h
  rw [src_split, dst_split]
  iintro ⟨Hv, ⟨Hs, Hr⟩, Hd⟩
  imod h $$ [Hv Hs Hd] with H
  · isplitl [Hv]; · iexact Hv
    isplitl [Hs] <;> iassumption
  imodintro
  isplitl [H] <;> iassumption

theorem kvSems_eq (c : Dev nD) : (kvSems c : sProp 𝕄) = iprop((bigSep Finset.univ fun ci : Fin 4 => semVal ((c : Thread nD τ), .dma (kvS 0 ci)) 0)
    ∗ bigSep Finset.univ fun ci : Fin 4 => semVal ((c : Thread nD τ), .dma (kvS 1 ci)) 0) := by
  unfold kvSems; rw [bigSep_univ_prod]
  exact fin2_eq fun s => bigSep Finset.univ fun ci : Fin 4 => semVal ((c : Thread nD τ), .dma (kvS s ci)) 0

theorem three_eq (Φ : XK → sProp 𝕄) : (bigSep Finset.univ fun k : Fin 4 => iprop(Φ (k, 0) ∗ Φ (k, 1) ∗ Φ (k, 2))) = bigSep Finset.univ Φ := by
  rw [bigSep_univ_prod]
  exact bigSep_congr fun k _ => (fin3_eq fun e => Φ (k, e)).symm

/-- The four rows a body ends with, put together again. -/
theorem end_all (c : Dev nD) : iprop(endRow m c 0 ∗ endRow m c 1 ∗ endRow m c 2 ∗ endRow m c 3)
    = (iprop((((dstB 0).view.loc (c : Thread nD τ) ↦{fullShare} kvF m 0 c) ∗ (bigSep Finset.univ fun ci : Fin 4 => SrcBack m 0 c ci) ∗ bigSep Finset.univ fun ci : Fin 4 => semVal ((c : Thread nD τ), .dma (kvS 0 ci)) 0)
      ∗ (((dstB 1).view.loc (c : Thread nD τ) ↦{fullShare} kvF m 1 c) ∗ (bigSep Finset.univ fun ci : Fin 4 => SrcBack m 1 c ci) ∗ bigSep Finset.univ fun ci : Fin 4 => semVal ((c : Thread nD τ), .dma (kvS 1 ci)) 0)
      ∗ ((c : Thread nD τ).loc cc0_scratch2 ↦{fullShare} CMb m c)
      ∗ (bigSep Finset.univ fun x : XK => semVal (recvCell c x) 0) ∗ (bigSep Finset.univ fun x : XK => semVal (sendCell c x) 0)) : sProp 𝕄) := by
  rw [← fin4_eq (fun k => endRow m c k), ← dst_join, ← dst_join, slots_split, ← three_eq (fun x => semVal (recvCell c x) 0), ← three_eq (fun x => semVal (sendCell c x) 0)]
  unfold endRow
  simp only [bsep_sep]

/-- The tokens and positions a body starts from, in the form it takes them. -/
theorem linear_eq (c : Dev nD) : (linear c : sProp 𝕄)
    ⊢ iprop((dutyTok ER (barCell (pr c 0)) 0 0 ∗ dutyTok ER (barCell (pr c 1)) 0 1 ∗ dutyTok ER (barCell (pr c 2)) 0 2)
      ∗ atPos ER (barCell c) 0 ∅ 0 ∗ (bigSep Finset.univ fun x : XK => T c x) ∗ (bigSep Finset.univ fun x : XK => atPos ER (recvCell c x) 0 ∅ 0) ∗ kvSems c) := by
  unfold linear payToks T
  rw [bsep_option, bsep_xi, fin3_eq, bsep_sep, bsep_sep]
  iintro ⟨⟨⟨⟨Hs, Hr⟩, Hb⟩, Hd, H1, H2⟩, Hk⟩
  isplitl [Hd]; · iexact Hd
  isplitl [Hb]; · iexact Hb
  isplitl [H1 H2 Hs]
  · isplitl [H1]; · iexact H1
    isplitl [H2]; · iexact H2
    iexact Hs
  isplitl [Hr]; · iexact Hr
  iexact Hk

theorem rcv_intro (c : Dev nD) :
    iprop((bigSep Finset.univ fun x : XK => atPos ER (recvCell c x) 0 ∅ 0) ∗ (bigSep Finset.univ fun x : XK => cred (tallyAt (recvCell c x) () SN))) ⊢ (RcvL c allX : sProp 𝕄) := by
  rw [RcvL_eq, ← bigSep_univ_eq_bigSepL allX (by decide) (by decide) (fun x => B c x), ← bsep_sep]
  exact Entails.refl _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () (t0_0 : Fin cfg0.N).succ ∗ stg c cc0_stg0_0 (xstg m c) ∗ stg c cc0_stg1_0 (wqstg m c) ∗ stg c cc0_stg2_0 (wostg m c) ∗ stg c cc0_stg3_0 (outAt m c))

/-- What a body ends with is what the launch asks of it. -/
theorem post_intro (c : Dev nD) : iprop(bodyOut m c ∗ srcRest m 0 c ∗ srcRest m 1 c) ⊢ (bodyPost m c : sProp 𝕄) := by
  unfold bodyOut bodyPost Φ₁ arg2P arg3P Dat.owesAt Pipeline.owesWithin owesS scrs xSems XP WqP WoP
  rw [end_all, kvSems_eq, show (dats m 0 c).owed (t0_0 : Fin cfg0.N).succ = 0 from rfl, bsep_xi (fun x => (semVal (xCell c x) 0 : sProp 𝕄))]
  iintro ⟨⟨⟨%W, HO⟩, ⟨⟨D0, S0, V0⟩, ⟨D1, S1, V1⟩, Hc, Hr, Hs⟩, Hx, Hq, Hw, Ho, Hb⟩, R0, R1⟩
  ihave A0 := (Entails.of_eq (src_split m 0 c).symm) $$ [S0 R0]
  · isplitl [S0] <;> iassumption
  ihave A1 := (Entails.of_eq (src_split m 1 c).symm) $$ [S1 R1]
  · isplitl [S1] <;> iassumption
  isplitl [D0 D1 Hc V0 V1 Hr Hs Hb A0 A1]
  · isplitl [D0 D1 Hc]
    · isplitl [D0]; · iexists (kvF m 0 c); iexact D0
      isplitl [D1]; · iexists (kvF m 1 c); iexact D1
      iexists (CMb m c); iexact Hc
    isplitl [V0 V1 Hr Hs]
    · isplitl [V0 V1]
      · isplitl [V0] <;> iassumption
      isplitl [Hs] <;> iassumption
    isplitl [Hb]; · iexact Hb
    isplitl [A0]; · iexact A0
    iexact A1
  isplitl [HO]
  · iexists W; isplitr; · ipureintro; exact fun _ _ => Or.inl trivial
    iexact HO
  isplitl [Hx]; · iexists _; isplitr; · (ipureintro; rfl)
                  iexact Hx
  isplitl [Hq]; · iexists _; isplitr; · (ipureintro; rfl)
                  iexact Hq
  isplitl [Hw]; · iexists _; isplitr; · (ipureintro; rfl)
                  iexact Hw
  iexists _; isplitr; · (ipureintro; rfl)
  iexact Ho

theorem sound_body (c : Dev nD) :
    bodyPre m c ⊢ wp frame (wpE (defs₀ (F := F)) 𝒱₀ (c : Thread nD τ) none) Set.univ theBody fun _ => bodyPost m c := by
  unfold bodyPre Φ₀ start arg2P arg3P G' creds scrs Dat.owesAt Pipeline.owesWithin
  rw [show (dats m 0 c).owed (t0_0 : Fin cfg0.N).castSucc = O₀ c from rfl]
  iintro ⟨⟨⟨⟨%K, #HR, Hlin⟩, ⟨HcR, HcB⟩, #Hlev, A2, A3⟩, ⟨%f0, D0⟩, ⟨%f1, D1⟩, ⟨%f2, D2⟩⟩, ⟨%W, %hW, HO⟩, ⟨%d0, %b0, %hb0, Hx⟩, ⟨%d1, %b1, %hb1, Hq⟩, ⟨%d2, %b2, %hb2, Hw⟩, ⟨%d3, %b3, %hb3, Ho⟩⟩
  have e0 : b0 = xstg m c := by rw [hb0]; unfold Dat.before; rw [if_pos (fetch0_0 t0_0)]; rfl
  have e1 : b1 = wqstg m c := by rw [hb1]; unfold Dat.before; rw [if_pos (fetch0_1 t0_0)]; rfl
  have e2 : b2 = wostg m c := by rw [hb2]; unfold Dat.before; rw [if_pos (fetch0_2 t0_0)]; rfl
  subst e0 e1 e2
  ihave HL := (linear_eq c) $$ Hlin
  icases HL with ⟨Hd, Hb, HT, Hr, Hk⟩
  ihave HRcv := (rcv_intro (F := F) c) $$ [Hr HcR]
  · isplitl [Hr] <;> iassumption
  ihave Hk := (Entails.of_eq (kvSems_eq (F := F) c)) $$ Hk
  icases Hk with ⟨V0, V1⟩
  imod (qs_init m 0 c f0) $$ [V0 A2 D0] with ⟨⟨P0, P1, P2, P3⟩, R0⟩
  · isplitl [V0]; · iexact V0
    isplitl [A2]; · iexact A2
    iexact D0
  imod (qs_init m 1 c f1) $$ [V1 A3 D1] with ⟨⟨N0, N1, N2, N3⟩, R1⟩
  · isplitl [V1]; · iexact V1
    isplitl [A3]; · iexact A3
    iexact D1
  ihave HG := (gives_intro (F := F) c f2) $$ D2
  icases HG with ⟨HG, Hs⟩
  ihave Hs := (Entails.of_eq (fin4_eq fun k => slotPts (F := F) c k 0 fullShare f2)) $$ Hs
  have hrun := run_body m K c f0 f1 f2 b3 fun _ => bodyPost m c
  unfold owesS XP WqP WoP at hrun
  iapply hrun
  isplitr; · iexact HR
  isplitr; · iexact Hlev
  isplitl [HO]; · iexists W; iexact HO
  isplitl [Hd]; · iexact Hd
  isplitl [HG]; · iexact HG
  isplitl [HcB]; · iexact HcB
  isplitl [Hb]; · iexact Hb
  isplitl [HT]; · iexact HT
  isplitl [HRcv]; · iexact HRcv
  isplitl [P0 P1 P2 P3 N0 N1 N2 N3]
  · isplitl [P0]; · iexact P0
    isplitl [N0]; · iexact N0
    isplitl [P1]; · iexact P1
    isplitl [N1]; · iexact N1
    isplitl [P2]; · iexact P2
    isplitl [N2]; · iexact N2
    isplitl [P3]; · iexact P3
    iexact N3
  isplitl [Hs]; · iexact Hs
  isplitl [Hx]; · iexact Hx
  isplitl [Hq]; · iexact Hq
  isplitl [Hw]; · iexact Hw
  isplitl [Ho]; · iexact Ho
  iintro HE
  iapply (post_intro m c)
  isplitl [HE]; · iexact HE
  isplitl [R0] <;> iassumption

set_option maxRecDepth 100000 in
/-- The launch's obligation on device `c`'s body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq, arg2P_eq, arg3P_eq]
  iintro ⟨⟨H2, H3⟩, Hlev, Hcr, -, HG⟩
  ihave Hc := (creds_intro (F := F) c) $$ Hcr
  imodintro
  unfold start
  isplitl
  · isplitl [HG]; · iexact HG
    isplitl [Hc]; · iexact Hc
    isplitl [Hlev]; · iexact Hlev
    isplitl [H2] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs
  iintro ⟨Hs, -, Hr⟩
  isplitl [Hs] <;> iassumption

def endY (c : Dev nD) : sProp 𝕄 := iprop(unscopedSems0 c ∗ arg2P m c ∗ arg3P m c)

theorem phi1_exit (c : Dev nD) :
    (dats m 0 c).Φ (Fin.last cfg0.N) ⊢ iprop(endY m c ∗ Pipeline.ownSems0 osem c ∗ Pipeline.scopedRest cfg0.spec c) := by
  unfold endY
  rw [show (dats m 0 c).Φ (Fin.last cfg0.N) = Φ₁ m c from rfl, scopedRest0_eq, ownSems0_eq, unscopedSems0_eq]
  unfold Φ₁ scrs
  iintro ⟨Hr, Hv, Hb, H2, H3⟩
  isplitl [Hb H2 H3]
  · isplitl [Hb]; · iexact Hb
    isplitl [H2] <;> iassumption
  isplitl [Hv] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The arrays a device holds after its run. -/
def finalA (c : Dev nD) (w : Fin cfg0.W) : Buf (Elt F) ((cfg0.win w).arr.view.loc (c : Thread nD τ)) := (dats m 0 c).arrAt w cfg0.N

def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem endY_read (c : Dev nD) (s' : Phys nD τ sig (Elt F)) :
    iprop(endY m c ∗ emp ∗ SI s') ⊢ (|={Set.univ}=> iprop(⌜QY m c s'.mem⌝ ∗ SI s') : sProp 𝕄) := by
  unfold endY
  rw [← arg2P_eq, ← arg3P_eq]
  iintro ⟨⟨Hu, H2, H3⟩, -, HSI⟩
  icombine HSI H2 gives %h2
  icombine HSI H3 gives %h3
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ h2, Buf.eq_of_forall_mem_univ h3⟩
  iexact HSI

theorem share_eq (c : Dev nD) (w : Fin cfg0.W) : (dats m 0 c).share w = fullShare := by unfold Dat.share; split <;> rfl

set_option maxRecDepth 100000 in
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w)
        ∧ r.2.mem ((c : Thread nD τ).loc main_arg2) = m ((c : Thread nD τ).loc main_arg2) ∧ r.2.mem ((c : Thread nD τ).loc main_arg3) = m ((c : Thread nD τ).loc main_arg3))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      have hf := fund_cells (F := F) m
      unfold ER at hf
      imod hf $$ HX with HG
      imodintro
      isplitl [HP] <;> iassumption)
    (hglob := glob m)
    (hA := fun _ _ => rfl) (hpf := fun _ k => k.elim0)
    (X := start m) (Y := endY m) (Z := fun _ => iprop(emp))
    (hX := start_intro m ρ) (hin := phi0_intro m) (hout := phi1_exit m)
    (QY := QY m)
    (hY := fun c s' => endY_read m c s')
    (hQ := fun _ h hs => ⟨fun c => ⟨fun w => (h c).1 w, (h c).2.2.2⟩, sem_eq_zero hs fun c => (h c).2.2.1⟩)

/-- An argument's array after the run holds what it held. -/
theorem finalA_in (c : Dev nD) (w : Fin cfg0.W) (h : (cfg0.win w).isOut = false) : finalA m c w = m ((cfg0.win w).arr.view.loc (c : Thread nD τ)) :=
  (dats (F := F) m 0 c).arrAt_in w h _

end Cert.KProof
-- ==== Proof.Frames.lean ====
/-
# `Frames`: the kernel and its idealization run to their end, quiescent and with their arguments unchanged
-/
module

public import proofs.«01_k».proof.Proof.Launch
public import proofs.«01_k».proof.Proof.Gen.Kernel
public import proofs.«01_k».proof.Proof.Gen.ReferenceIdeal.Run
public import proofs.«01_k».proof.Defs

@[expose] public section

set_option maxRecDepth 100000

noncomputable section

namespace Cert.KProof

open Idealize.ShloMosaic Idealize.ShloMosaic.TcCoe Idealize.SL.Sem
open Cert.KernelIdeal Cert.KernelIdeal.Gen

/-- The run over any float values: the result's array at what the body leaves, the arguments as they were, every counter at zero. -/
theorem run_kept {F : FTy → Type} [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_v1) = finalA m c 3
        ∧ (r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2)
          ∧ r.2.mem ((c : Thread nD τ).loc main_arg3) = m ((c : Thread nD τ).loc main_arg3)
          ∧ r.2.mem ((c : Thread nD τ).loc main_arg4) = m ((c : Thread nD τ).loc main_arg4))) ∧ r.2.sem = fun _ => 0) :=
  (θ_run defs _ _).mono (fun _ h => ⟨fun c => ⟨(h.1 c).1 3, ((h.1 c).1 0).trans (finalA_in m c 0 rfl), ((h.1 c).1 1).trans (finalA_in m c 1 rfl),
    (h.1 c).2.1, (h.1 c).2.2, ((h.1 c).1 2).trans (finalA_in m c 2 rfl)⟩, h.2⟩) (run_main m ρ)

theorem frame_any {F : FTy → Type} [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2)
          ∧ r.2.mem ((c : Thread nD τ).loc main_arg3) = m ((c : Thread nD τ).loc main_arg3)
          ∧ r.2.mem ((c : Thread nD τ).loc main_arg4) = m ((c : Thread nD τ).loc main_arg4)) ∧ r.2.sem = fun _ => 0) :=
  (θ_run defs _ _).mono (fun _ h => ⟨fun c => (h.1 c).2, h.2⟩) (run_kept m ρ)

/-! The two programs have one text: the bodies are one program, so the tables of bodies are. -/

theorem body_eq : Cert.Kernel.cc0_body (F := Bits) = Cert.KernelIdeal.cc0_body (F := Bits) := rfl
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

theorem frame_of_defs (D : Defs nD τ sig (Elt Bits) (Pipeline.Sig Λ₀ (Fin 1) fun p => (pcfgs (F := Bits) p).Adm)) (hD : D = Cert.KernelIdeal.defs (F := Bits))
    (m : (ℓ : Loc nD τ sig) → Buf (Elt Bits) ℓ) (ρ : Dev nD → PrngReg) :
    θ_run D (onTc (τ := τ) (main (F := Bits))) ⟨m, fun _ => 0, ρ⟩
      (fun r => (∀ c : Dev nD, r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2)
          ∧ r.2.mem ((c : Thread nD τ).loc main_arg3) = m ((c : Thread nD τ).loc main_arg3)
          ∧ r.2.mem ((c : Thread nD τ).loc main_arg4) = m ((c : Thread nD τ).loc main_arg4)) ∧ r.2.sem = fun _ => 0) := by
  subst hD
  exact frame_any m ρ

/-- The kernel as printed: the run above at the machine's own floats. -/
theorem frame_kernel : Cert.quiescent_Kernel := fun m ρ _ => frame_of_defs _ defs_eq m ρ

theorem frame_kernelIdeal : Cert.quiescent_KernelIdeal := fun m ρ _ => frame_any (F := Ideal) m ρ

/-- The reference is a straight line of host operations and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof
-- ==== Proof.Attn.lean ====
/-
# `Attn`: the softmax identity over the extended reals

A row of masked scores, shifted by its greatest entry, exponentiated, normalised and then used as weights, gives the
same as the plain exponentials of the unmasked scores, summed against the values and divided once by their own sum.
The scores are real numbers; the values may be any extended reals.
-/
module

public import Idealize.ShloMosaic.Lib.Pointwise
public import Idealize.ShloMosaic.Lib.IdealHost

@[expose] public section

noncomputable section

namespace Cert.KProof

open Idealize.ShloMosaic

/-- A finite sum of real numbers, seen among the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A factor that is a non-negative real number may be taken out of a finite sum of extended reals. -/
theorem sum_mul_coe {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert x s hx ih =>
    rw [Finset.sum_insert hx, Finset.sum_insert hx, ih,
      EReal.right_distrib_of_nonneg_of_ne_top (EReal.coe_nonneg.mpr ha) (EReal.coe_ne_top a)]

/-- Division by a positive real number is multiplication by its inverse. -/
theorem div_coe (x : EReal) (d : ℝ) (hd : 0 < d) : Ideal.div x (d : EReal) = x * ((d⁻¹ : ℝ) : EReal) := by
  unfold Ideal.div
  rw [if_neg (by intro h; exact hd.ne' (EReal.coe_eq_zero.mp h)), EReal.coe_inv]

/-- The sum over the positions that a predicate picks out, listed by an injective enumeration of them. -/
theorem sum_pick {ι κ : Type} [Fintype ι] [Fintype κ] (b : ι → Prop) [DecidablePred b] (row : κ → ι) (hinj : Function.Injective row)
    (hb : ∀ t, b (row t)) (hs : ∀ i, b i → ∃ t, row t = i) (g : ι → EReal) :
    ∑ i, (if b i then g i else 0) = ∑ t, g (row t) := by
  classical
  rw [← Finset.sum_filter]
  have e : Finset.univ.filter b = Finset.univ.image row := by
    ext i
    simp only [Finset.mem_filter, Finset.mem_univ, true_and, Finset.mem_image]
    exact ⟨fun h => hs i h, fun ⟨t, ht⟩ => ht ▸ hb t⟩
  rw [e, Finset.sum_image (fun _ _ _ _ h => hinj h)]

/-- The greatest of finitely many masked real scores, one of them not masked, is a real number. -/
theorem max_real {ι : Type} [Fintype ι] (b : ι → Prop) [DecidablePred b] (r : ι → ℝ) (i₀ : ι) (h₀ : b i₀) :
    ∃ μ : ℝ, Finset.univ.fold max (⊥ : EReal) (fun i => if b i then ((r i : ℝ) : EReal) else ⊥) = (μ : EReal) := by
  have hsup : Finset.univ.fold max (⊥ : EReal) (fun i => if b i then ((r i : ℝ) : EReal) else ⊥)
      = Finset.univ.sup (fun i => if b i then ((r i : ℝ) : EReal) else ⊥) := rfl
  rw [hsup]
  have h1 : Finset.univ.sup (fun i => if b i then ((r i : ℝ) : EReal) else ⊥) ≠ ⊤ := by
    refine ne_of_lt ((Finset.sup_lt_iff (by simp)).mpr fun i _ => ?_)
    by_cases hi : b i
    · rw [if_pos hi]; exact EReal.coe_lt_top _
    · rw [if_neg hi]; simp
  have h2 : Finset.univ.sup (fun i => if b i then ((r i : ℝ) : EReal) else ⊥) ≠ ⊥ := by
    have := Finset.le_sup (f := fun i => if b i then ((r i : ℝ) : EReal) else ⊥) (Finset.mem_univ i₀)
    intro h
    rw [h] at this
    simp only [if_pos h₀] at this
    exact absurd this (by simp)
  exact ⟨_, (EReal.coe_toReal h1 h2).symm⟩

/-- A masked score, shifted and exponentiated: nothing where the mask hides it, the product of two exponentials elsewhere. -/
theorem exp_masked (p : Prop) [Decidable p] (r μ : ℝ) :
    Ideal.exp ((if p then (r : EReal) else ⊥) - (μ : EReal)) = if p then ((Real.exp r * Real.exp (-μ) : ℝ) : EReal) else 0 := by
  by_cases hp : p
  · rw [if_pos hp, if_pos hp, ← EReal.coe_sub]
    show ((Real.exp (r - μ) : ℝ) : EReal) = _
    rw [sub_eq_add_neg, Real.exp_add]
  · rw [if_neg hp, if_neg hp, EReal.bot_sub]
    rfl

/-- **The softmax identity.** `b` says which positions of a row are seen, `row` lists them, `s` are the scores (real
    numbers), `v` the values. -/
theorem attn_eq {ι κ : Type} [Fintype ι] [Fintype κ] [Nonempty κ] (b : ι → Prop) [DecidablePred b] (row : κ → ι)
    (hinj : Function.Injective row) (hb : ∀ t, b (row t)) (hs : ∀ i, b i → ∃ t, row t = i)
    (s v : ι → EReal) (r : ι → ℝ) (hr : ∀ i, s i = (r i : EReal))
    (M : EReal) (hM : M = Finset.univ.fold max (⊥ : EReal) (fun i => if b i then s i else ⊥))
    (D : EReal) (hD : D = ∑ i, Ideal.exp ((if b i then s i else ⊥) - M)) :
    ∑ i, v i * Ideal.div (Ideal.exp ((if b i then s i else ⊥) - M)) D
      = Ideal.div (∑ t, Ideal.exp (s (row t)) * v (row t)) (∑ t, Ideal.exp (s (row t))) := by
  obtain rfl : s = fun i => (r i : EReal) := funext hr
  obtain ⟨t₀⟩ := ‹Nonempty κ›
  obtain ⟨μ, hμ⟩ := max_real b r (row t₀) (hb t₀)
  rw [hμ] at hM
  subst hM
  have hE : 0 < Real.exp (-μ) := Real.exp_pos _
  have hA : 0 < ∑ t, Real.exp (r (row t)) := Finset.sum_pos (fun t _ => Real.exp_pos _) ⟨t₀, Finset.mem_univ _⟩
  have hD' : D = (((∑ t, Real.exp (r (row t))) * Real.exp (-μ) : ℝ) : EReal) := by
    rw [hD, Finset.sum_congr rfl (fun i _ => exp_masked (b i) (r i) μ), sum_pick b row hinj hb hs, sum_coe, ← Finset.sum_mul]
  have hX : ∀ x : ℝ, Ideal.exp ((x : ℝ) : EReal) = ((Real.exp x : ℝ) : EReal) := fun _ => rfl
  simp only [hX]
  rw [sum_coe, div_coe _ _ hA]
  rw [← sum_mul_coe _ _ _ (inv_nonneg.mpr hA.le)]
  have hterm : ∀ i, v i * Ideal.div (Ideal.exp ((if b i then ((r i : ℝ) : EReal) else ⊥) - (μ : EReal))) D
      = if b i then ((Real.exp (r i) : ℝ) : EReal) * v i * (((∑ t, Real.exp (r (row t)))⁻¹ : ℝ) : EReal) else 0 := by
    intro i
    rw [exp_masked, hD', div_coe _ _ (mul_pos hA hE)]
    by_cases hi : b i
    · rw [if_pos hi, if_pos hi, ← EReal.coe_mul]
      have e : Real.exp (r i) * Real.exp (-μ) * ((∑ t, Real.exp (r (row t))) * Real.exp (-μ))⁻¹
          = Real.exp (r i) * (∑ t, Real.exp (r (row t)))⁻¹ := by
        rw [mul_inv_rev, mul_assoc, ← mul_assoc (Real.exp (-μ)), mul_inv_cancel₀ hE.ne', one_mul]
      rw [e, EReal.coe_mul, ← mul_assoc, mul_comm (v i)]
    · rw [if_neg hi, if_neg hi, zero_mul, mul_zero]
  rw [Finset.sum_congr rfl (fun i _ => hterm i), sum_pick b row hinj hb hs]

/-- A product with a scale taken into the left operand, or applied to the whole: the same where everything is real. -/
theorem scale_in {ι : Type} [Fintype ι] (q k : ι → EReal) (hq : ∀ e, ∃ x : ℝ, q e = (x : EReal)) (hk : ∀ e, ∃ x : ℝ, k e = (x : EReal))
    (σ : EReal) (hσ : ∃ x : ℝ, σ = (x : EReal)) : ∑ e, q e * σ * k e = (∑ e, q e * k e) * σ := by
  choose q' hq' using hq
  choose k' hk' using hk
  obtain ⟨c, rfl⟩ := hσ
  obtain rfl : q = fun e => (q' e : EReal) := funext hq'
  obtain rfl : k = fun e => (k' e : EReal) := funext hk'
  simp only [← EReal.coe_mul]
  rw [sum_coe, sum_coe, ← EReal.coe_mul, Finset.sum_mul]
  exact congrArg _ (Finset.sum_congr rfl fun e _ => by rw [mul_assoc, mul_comm c, ← mul_assoc])

/-- A finite sum of products of real numbers is a real number. -/
theorem sum_real {ι : Type} [Fintype ι] (q k : ι → EReal) (hq : ∀ e, ∃ x : ℝ, q e = (x : EReal)) (hk : ∀ e, ∃ x : ℝ, k e = (x : EReal)) :
    ∃ x : ℝ, ∑ e, q e * k e = (x : EReal) := by
  choose q' hq' using hq
  choose k' hk' using hk
  obtain rfl : q = fun e => (q' e : EReal) := funext hq'
  obtain rfl : k = fun e => (k' e : EReal) := funext hk'
  simp only [← EReal.coe_mul]
  exact ⟨_, sum_coe _ _⟩

end Cert.KProof

end
-- ==== Proof.KVal.lean ====
/-
# `KVal`: the kernel's result over the extended reals, as a formula in its arguments
-/
module

public import proofs.«01_k».proof.Proof.Launch
public import proofs.«01_k».proof.Proof.Attn
public import Idealize.ShloMosaic.Lib.Pointwise
public import Idealize.ShloMosaic.Lib.Pipeline.ValueKit

@[expose] public section

set_option maxRecDepth 16384

noncomputable section

namespace Cert.KProof

open Idealize.ShloMosaic Idealize.ShloMosaic.TcCoe
open Cert.KernelIdeal Cert.KernelIdeal.Gen

theorem zero_block {x s j : ℕ} (h : x = 0) : x * s + j = j := by rw [h, Nat.zero_mul, Nat.zero_add]

section any
variable {F : FTy → Type} [FloatOps F] (m : (ℓ : Loc nD τ sig) → Buf (Elt F) ℓ)

/-- What the run leaves in the result's array is what the body leaves in the result's window. -/
theorem finalA_out (c : Dev nD) : finalA m c 3 = outAt m c := by
  unfold finalA
  refine (dats m 0 c).arrAt_eq_of_after_last 3 t0_0 (by decide +kernel) _ fun j => ?_
  blk_simp
  rfl

theorem xstg_eq (c : Dev nD) : (xstg m c : S1x256x1024.Idx → Elt F .f32) = m ((c : Thread nD τ).loc main_arg0) := by
  have ix : ∀ (t : Fin grid0.N) a, win0_0.index t a = 0 := by decide +kernel
  unfold xstg
  funext j
  blk_simp
  refine congrArg (m _) (funext fun a => Fin.ext ?_)
  blk_simp
  exact zero_block (ix _ a)
theorem wqstg_eq (c : Dev nD) : (wqstg m c : S1024x1024.Idx → Elt F .f32) = m ((c : Thread nD τ).loc main_arg1) := by
  have ix : ∀ (t : Fin grid0.N) a, win0_1.index t a = 0 := by decide +kernel
  unfold wqstg
  funext j
  blk_simp
  refine congrArg (m _) (funext fun a => Fin.ext ?_)
  blk_simp
  exact zero_block (ix _ a)
theorem wostg_eq (c : Dev nD) : (wostg m c : S1024x1024.Idx → Elt F .f32) = m ((c : Thread nD τ).loc main_arg4) := by
  have ix : ∀ (t : Fin grid0.N) a, win0_2.index t a = 0 := by decide +kernel
  unfold wostg
  funext j
  blk_simp
  refine congrArg (m _) (funext fun a => Fin.ext ?_)
  blk_simp
  exact zero_block (ix _ a)
end any

/-- The scale of the scores, `1/√128` as printed. -/
def scl : EReal := Ideal.ofBits .f32 0x3DB504F3#32

theorem pay1_at (x : Vec Ideal S1x256x1024 .f32) (w : Vec Ideal S1024x1024 .f32) (i : Fin 256) (n : Fin 1024) :
    k0_pay1 (F := Ideal) x w (ix2 i n) = (∑ k : Fin 1024, x (ix3 0 i k) * w (ix2 k n)) * scl := by
  pointwise [k0_pay1, scl]

theorem headOut_at (q : FVec Ideal S64x128 .f32) (k v : Vec Ideal S1x1024x1x128 .f32) (r : Fin 64) (d : Fin 128) :
    headOut (F := Ideal) q k v (ix2 r d)
      = Ideal.div (∑ t : Fin 1024, Ideal.exp (∑ e : Fin 128, q (ix2 r e) * k (ix4 0 t 0 e)) * v (ix4 0 t 0 d))
          (∑ t : Fin 1024, Ideal.exp (∑ e : Fin 128, q (ix2 r e) * k (ix4 0 t 0 e))) := by
  pointwise [headOut]

/-- Where key `t` of query chunk `ci` stands in the sequence: the blocks of 64 whose number is `ci` modulo 4, in order. -/
def keyRow (ci : Fin 4) (t : Fin 1024) : Fin 4096 :=
  ⟨64 * (4 * (t.val / 64) + ci.val) + t.val % 64, by have := ci.isLt; have := t.isLt; omega⟩
/-- Head `h` of device `c` among all the heads. -/
def headIx (c : Fin 4) (h : Fin 8) : Fin 32 := ⟨8 * c.val + h.val, by have := c.isLt; have := h.isLt; omega⟩
/-- Row `r` of query chunk `ci`. -/
def qRow (ci : Fin 4) (r : Fin 64) : Fin 256 := ⟨64 * ci.val + r.val, by have := ci.isLt; have := r.isLt; omega⟩
/-- Column `e` of head `h` among a device's columns. -/
def colIx (h : Fin 8) (e : Fin 128) : Fin 1024 := ⟨128 * h.val + e.val, by have := h.isLt; have := e.isLt; omega⟩

section ideal
variable (m : (ℓ : Loc nD τ sig) → Buf (Elt Ideal) ℓ)

/-- A device's arguments, as arrays of extended reals. -/
def aX (c : Dev nD) : S1x256x1024.Idx → EReal := m ((c : Thread nD τ).loc main_arg0)
def aWq (c : Dev nD) : S1024x1024.Idx → EReal := m ((c : Thread nD τ).loc main_arg1)
def aK (c : Dev nD) : S1x4096x32x128.Idx → EReal := m ((c : Thread nD τ).loc main_arg2)
def aV (c : Dev nD) : S1x4096x32x128.Idx → EReal := m ((c : Thread nD τ).loc main_arg3)
def aWo (c : Dev nD) : S1024x1024.Idx → EReal := m ((c : Thread nD τ).loc main_arg4)

/-- A device's projected and scaled query at a position and a column. -/
def qAt (c : Dev nD) (i : Fin 256) (n : Fin 1024) : EReal := (∑ k : Fin 1024, aX m c (ix3 0 i k) * aWq m c (ix2 k n)) * scl

theorem qv_at (c : Dev nD) (i : Fin 256) (n : Fin 1024) : qv m c (ix2 i n) = qAt m c i n := by
  unfold qv
  rw [pay1_at, xstg_eq, wqstg_eq]
  rfl

theorem kHead_at (c : Dev nD) (ci : Fin 4) (h : Fin 8) (t : Fin 1024) (e : Fin 128) :
    (kvHead m 0 c ci h (ix4 0 t 0 e) : EReal) = aK m c (ix4 0 (keyRow ci t) (headIx c h) e) := by
  show aK m c (srcIx c ((hRect ci h).toLoadRect.idx (ix4 0 t 0 e))) = _
  refine congrArg _ (funext fun a => Fin.ext ?_)
  fin_cases a
  · rfl
  · show 64 * (4 * ((0 + 1 * t.val) / 64) + (ci.val + 1 * 0)) + (0 + 1 * t.val) % 64 = 64 * (4 * (t.val / 64) + ci.val) + t.val % 64
    omega
  · show 8 * c.val + (h.val + 1 * 0) = 8 * c.val + h.val
    omega
  · show 0 + 1 * e.val = e.val
    omega

theorem vHead_at (c : Dev nD) (ci : Fin 4) (h : Fin 8) (t : Fin 1024) (e : Fin 128) :
    (kvHead m 1 c ci h (ix4 0 t 0 e) : EReal) = aV m c (ix4 0 (keyRow ci t) (headIx c h) e) := by
  show aV m c (srcIx c ((hRect ci h).toLoadRect.idx (ix4 0 t 0 e))) = _
  refine congrArg _ (funext fun a => Fin.ext ?_)
  fin_cases a
  · rfl
  · show 64 * (4 * ((0 + 1 * t.val) / 64) + (ci.val + 1 * 0)) + (0 + 1 * t.val) % 64 = 64 * (4 * (t.val / 64) + ci.val) + t.val % 64
    omega
  · show 8 * c.val + (h.val + 1 * 0) = 8 * c.val + h.val
    omega
  · show 0 + 1 * e.val = e.val
    omega

/-- The score of query row `i` against key `j` in head `h` of device `c`, the scale taken into the query. -/
def scoreK (c : Dev nD) (i : Fin 256) (h : Fin 8) (j : Fin 4096) : EReal :=
  ∑ e : Fin 128, qAt m c i (colIx h e) * aK m c (ix4 0 j (headIx c h) e)

/-- A head's output: the values weighted by the exponentials of the scores, over the exponentials' sum. -/
theorem hd_at (c : Dev nD) (ci : Fin 4) (h : Fin 8) (r : Fin 64) (d : Fin 128) :
    hd m c ci h (ix2 r d)
      = Ideal.div (∑ t : Fin 1024, Ideal.exp (scoreK m c (qRow ci r) h (keyRow ci t)) * aV m c (ix4 0 (keyRow ci t) (headIx c h) d))
          (∑ t : Fin 1024, Ideal.exp (scoreK m c (qRow ci r) h (keyRow ci t))) := by
  unfold hd
  rw [headOut_at]
  have hs : ∀ t : Fin 1024, ∑ e : Fin 128, extractStridedSlice S64x128 ![0, 128 * h.val] (extractStridedSlice S64x1024 ![64 * ci.val, 0] (qv m c) (qSlice ci)) (qhSlice h) (ix2 r e)
      * kvHead m 0 c ci h (ix4 0 t 0 e) = scoreK m c (qRow ci r) h (keyRow ci t) := by
    intro t
    refine Finset.sum_congr rfl fun e _ => ?_
    refine congrArg₂ (fun a b : EReal => a * b) ?_ (kHead_at m c ci h t e)
    rw [← qv_at]
    pointwise
    rfl
  simp only [hs, vHead_at]

set_option maxHeartbeats 1000000 in
/-- The heads of a device side by side: column `k` is column `k % 128` of head `k / 128`. -/
theorem cat_at (x : Fin 8 → FVec Ideal S64x128 .f32) (r : Fin 64) (k : Fin 1024) :
    concatenate S64x1024 1 [⟨S64x128, x 0⟩, ⟨S64x128, x 1⟩, ⟨S64x128, x 2⟩, ⟨S64x128, x 3⟩, ⟨S64x128, x 4⟩, ⟨S64x128, x 5⟩, ⟨S64x128, x 6⟩, ⟨S64x128, x 7⟩]
      concatenates_S64x128_S64x128_S64x128_S64x128_S64x128_S64x128_S64x128_S64x128_S64x1024_d1 (ix2 r k)
      = x ⟨k.val / 128, by have := k.isLt; omega⟩ (ix2 r ⟨k.val % 128, Nat.mod_lt _ (by decide)⟩) := by
  obtain ⟨h, e, rfl⟩ : ∃ (h : Fin 8) (e : Fin 128), k = colIx h e :=
    ⟨⟨k.val / 128, by have := k.isLt; omega⟩, ⟨k.val % 128, Nat.mod_lt _ (by decide)⟩, Fin.ext (by show k.val = 128 * (k.val / 128) + k.val % 128; omega)⟩
  have hh : (⟨(colIx h e).val / 128, by have := (colIx h e).isLt; omega⟩ : Fin 8) = h :=
    Fin.ext (by show (128 * h.val + e.val) / 128 = h.val; have := e.isLt; omega)
  have he : (⟨(colIx h e).val % 128, Nat.mod_lt _ (by decide)⟩ : Fin 128) = e :=
    Fin.ext (by show (128 * h.val + e.val) % 128 = e.val; have := e.isLt; omega)
  rw [hh, he]
  have hd := e.isLt
  clear hh he
  pointwise [colIx]
  fin_vals h with hk
  all_goals
    repeat' split
    all_goals first
      | (exfalso; omega)
      | (refine congr (congrArg x (Fin.ext hk.symm)) (congrArg (ix2 r) (Fin.ext ?_))
         dsimp only
         omega)

theorem prt_of (x : FVec Ideal S64x1024 .f32) (w : FVec Ideal S1024x1024 .f32) (r : Fin 64) (n : Fin 1024) :
    shapeCast S64x1024 (shapeCast S1x1x64x1024 (truncf .bf16 (matmul dot_S64x1024_S1024x1024_S64x1024_1_0_0_1_n_n none x
      (shapeCast S1024x1024 w shapeCasts_S1024x1024_S1024x1024) (constant S64x1024 .f32 0x00000000#32)) bitsLt_bf16_f32)
      shapeCasts_S64x1024_S1x1x64x1024) shapeCasts_S1x1x64x1024_S64x1024 (ix2 r n) = ∑ k : Fin 1024, x (ix2 r k) * w (ix2 k n) := by
  pointwise

theorem blk_of (p0 p1 p2 p3 : FVec Ideal S64x1024 .bf16) (r : Fin 64) (n : Fin 1024) :
    shapeCast S1x64x1024 (addf (addf (extf .f32 p0 bitsLt_bf16_f32) (extf .f32 p1 bitsLt_bf16_f32))
      (addf (extf .f32 p2 bitsLt_bf16_f32) (extf .f32 p3 bitsLt_bf16_f32))) shapeCasts_S64x1024_S1x64x1024 (ValueIdx.ix3 0 r n)
      = (p0 (ix2 r n) + p1 (ix2 r n)) + (p2 (ix2 r n) + p3 (ix2 r n)) := by
  rw [← ix3_eq_valueIdx]
  pointwise

/-- Head `h` of device `c` at a row and a column: the output of the attention there. -/
def ctxK (c : Dev nD) (i : Fin 256) (k : Fin 1024) : EReal :=
  hd m c ⟨i.val / 64, by have := i.isLt; omega⟩ ⟨k.val / 128, by have := k.isLt; omega⟩
    (ix2 ⟨i.val % 64, Nat.mod_lt _ (by decide)⟩ ⟨k.val % 128, Nat.mod_lt _ (by decide)⟩)

/-- A device's share of the result. -/
def shareK (c : Dev nD) (i : Fin 256) (n : Fin 1024) : EReal := ∑ k : Fin 1024, ctxK m c i k * aWo m c (ix2 k n)

theorem outAt_at (c : Dev nD) (i : Fin 256) (n : Fin 1024) :
    outAt m c (ix3 0 i n) = (shareK m (srcDev c 0) i n + shareK m (srcDev c 1) i n) + (shareK m (srcDev c 2) i n + shareK m (srcDev c 3) i n) := by
  have hp : ∀ s : Dev nD, (shapeCast S64x1024 (prt m s ⟨i.val / 64, by have := i.isLt; omega⟩) shapeCasts_S1x1x64x1024_S64x1024
      (ix2 ⟨i.val % 64, Nat.mod_lt _ (by decide)⟩ n) : EReal) = shareK m s i n := by
    intro s
    unfold prt
    rw [prt_of]
    refine Finset.sum_congr rfl fun k _ => ?_
    rw [cat_at (fun h => hd m s _ h), wostg_eq]
    rfl
  rw [← hp, ← hp, ← hp, ← hp]
  exact blk_of _ _ _ _ _ _

theorem srcDev_sum (f : Dev nD → EReal) (c : Dev nD) :
    (f (srcDev c 0) + f (srcDev c 1)) + (f (srcDev c 2) + f (srcDev c 3)) = ∑ s : Fin 4, f s := by
  have hi : ∀ c : Dev nD, ∀ a b : Fin 4, srcDev c a = srcDev c b → a = b := by decide
  have e := Fin.sum_univ_four (fun j : Fin 4 => f (srcDev c j))
  rw [← add_assoc, ← e]
  exact Equiv.sum_comp (Equiv.ofBijective (srcDev c) (Finite.injective_iff_bijective.mp (fun a b h => hi c a b h))) f

/-- **The kernel's result**: every device's share, summed. -/
theorem outAt_eq (c : Dev nD) (i : Fin 256) (n : Fin 1024) : outAt m c (ix3 0 i n) = ∑ s : Fin 4, shareK m s i n := by
  rw [outAt_at, srcDev_sum (fun s => shareK m s i n)]

end ideal

end Cert.KProof

end
-- ==== Proof.RVal.lean ====
/-
# `RVal`: the reference's result over the extended reals, as a formula in its arguments
-/
module

public import proofs.«01_k».proof.Proof.Gen.ReferenceIdeal.Run
public import proofs.«01_k».proof.Proof.Attn
public import Idealize.ShloMosaic.Lib.Pointwise
public import Idealize.ShloMosaic.Lib.Routing.OpsOrder

@[expose] public section

set_option maxRecDepth 16384

noncomputable section

namespace Cert.KProof

open Idealize.ShloMosaic Idealize.ShloMosaic.TcCoe
open Cert.ReferenceIdeal Cert.ReferenceIdeal.Gen

/-! ## The blocks and the mask -/

/-- Division by 64 rounded down, as the reference spells it on words. -/
def floor64 {S : Shape} (h : S_.BroadcastsInDim S ![]) (x : IVec S 32) : IVec S 32 :=
  select (andi (cmpi .ne (signi x) (broadcastInDim S ![] h (signi (id (constantI S_ 32 64#32)))))
      (cmpi .ne (Host.remsi x (broadcastInDim S ![] h (id (constantI S_ 32 64#32)))) (broadcastInDim S ![] h (constantI S_ 32 0#32))))
    (subi (Host.divsi x (broadcastInDim S ![] h (id (constantI S_ 32 64#32)))) (broadcastInDim S ![] h (constantI S_ 32 1#32)))
    (Host.divsi x (broadcastInDim S ![] h (id (constantI S_ 32 64#32))))

/-- The word four, guarded against zero as the reference spells it. -/
def four : IVec S_ 32 := select (cmpi .eq (id (constantI S_ 32 4#32)) (constantI S_ 32 0#32)) (constantI S_ 32 1#32) (id (constantI S_ 32 4#32))

/-- The remainder modulo 4 with the sign of the divisor, as the reference spells it on words. -/
def mod4 {S : Shape} (h : S_.BroadcastsInDim S ![]) (x : IVec S 32) : IVec S 32 :=
  select (andi (cmpi .ne (cmpi .slt (Host.remsi x (broadcastInDim S ![] h four)) (broadcastInDim S ![] h (constantI S_ 32 0#32)))
        (broadcastInDim S ![] h (cmpi .slt four (constantI S_ 32 0#32))))
      (cmpi .ne (Host.remsi x (broadcastInDim S ![] h four)) (broadcastInDim S ![] h (constantI S_ 32 0#32))))
    (addi (Host.remsi x (broadcastInDim S ![] h four)) (broadcastInDim S ![] h four))
    (Host.remsi x (broadcastInDim S ![] h four))

/-- The number of each query's block, and of each key's. -/
def qBlk : IVec S256x1 32 := broadcastInDim S256x1 ![0] bcast_S256_S256x1_0 (floor64 bcast_S_S256 (iotaInDim S256 32 0))
def kBlk : IVec S1x4096 32 := broadcastInDim S1x4096 ![1] bcast_S4096_S1x4096_1 (floor64 bcast_S_S4096 (iotaInDim S4096 32 0))

/-- Which key each query sees. -/
def maskR : IVec S256x4096 1 :=
  ori (cmpi .eq (broadcastInDim S256x4096 ![0, 1] bcast_S256x1_S256x4096_0_1 qBlk) (broadcastInDim S256x4096 ![0, 1] bcast_S1x4096_S256x4096_0_1 kBlk))
    (cmpi .eq (broadcastInDim S256x4096 ![0, 1] bcast_S1x4096_S256x4096_0_1 (mod4 bcast_S_S1x4096 kBlk))
      (broadcastInDim S256x4096 ![0, 1] bcast_S256x1_S256x4096_0_1 (mod4 bcast_S_S256x1 qBlk)))

theorem bcast_S_S : S_.BroadcastsInDim S_ ![] := by decide

theorem floor64_word {S : Shape} (h : S_.BroadcastsInDim S ![]) (x : IVec S 32) (j : S.Idx) :
    floor64 h x j = floor64 bcast_S_S (fun _ => x j) ix0 := rfl
theorem mod4_word {S : Shape} (h : S_.BroadcastsInDim S ![]) (x : IVec S 32) (j : S.Idx) :
    mod4 h x j = mod4 bcast_S_S (fun _ => x j) ix0 := rfl
theorem floor64_val : ∀ n : Fin 4096, floor64 bcast_S_S (fun _ => BitVec.ofNat 32 n.val) ix0 = BitVec.ofNat 32 (n.val / 64) := by
  decide +kernel
theorem mod4_val : ∀ n : Fin 64, mod4 bcast_S_S (fun _ => BitVec.ofNat 32 n.val) ix0 = BitVec.ofNat 32 (n.val % 4) := by
  decide +kernel
theorem seen_val : ∀ (a : Fin 4) (b : Fin 64),
    IntOp.ori (IntOp.cmpi .eq (BitVec.ofNat 32 a.val) (BitVec.ofNat 32 b.val)) (IntOp.cmpi .eq (BitVec.ofNat 32 (b.val % 4)) (BitVec.ofNat 32 (a.val % 4)))
      = if b.val % 4 = a.val then 1#1 else 0#1 := by
  decide +kernel

/-- A query sees the keys whose block's number is its own block's modulo 4. -/
def seen (i : Fin 256) (j : Fin 4096) : Prop := j.val / 64 % 4 = i.val / 64
instance (i : Fin 256) : DecidablePred (seen i) := fun _ => by unfold seen; infer_instance

theorem mask_at (i : Fin 256) (j : Fin 4096) : maskR (ix2 i j) = if seen i j then 1#1 else 0#1 := by
  have hq : qBlk (ix2 i 0) = BitVec.ofNat 32 (i.val / 64) := by
    have e := floor64_val ⟨i.val, by have := i.isLt; omega⟩
    refine Eq.trans ?_ e
    show floor64 bcast_S_S256 (iotaInDim S256 32 0) _ = _
    rw [floor64_word]
    rfl
  have hk : kBlk (ix2 0 j) = BitVec.ofNat 32 (j.val / 64) := by
    have e := floor64_val j
    refine Eq.trans ?_ e
    show floor64 bcast_S_S4096 (iotaInDim S4096 32 0) _ = _
    rw [floor64_word]
    rfl
  have hqm : mod4 bcast_S_S256x1 qBlk (ix2 i 0) = BitVec.ofNat 32 (i.val / 64 % 4) := by
    rw [mod4_word, hq]
    exact mod4_val ⟨i.val / 64, by have := i.isLt; omega⟩
  have hkm : mod4 bcast_S_S1x4096 kBlk (ix2 0 j) = BitVec.ofNat 32 (j.val / 64 % 4) := by
    rw [mod4_word, hk]
    exact mod4_val ⟨j.val / 64, by have := j.isLt; omega⟩
  have e := seen_val ⟨i.val / 64, by have := i.isLt; omega⟩ ⟨j.val / 64, by have := j.isLt; omega⟩
  unfold maskR
  pointwise
  rw [hq, hk, hqm, hkm]
  exact e

/-! ## The scores, the weights and the result -/

variable (x : FVec Ideal S1x256x1024 .f32) (wq : FVec Ideal S1024x4096 .f32) (k v : FVec Ideal S1x4096x32x128 .f32) (wo : FVec Ideal S4096x1024 .f32)

/-- The scaled scores, and the same with minus infinity where the mask hides the key. -/
def scaledR : FVec Ideal S1x32x256x4096 .f32 :=
  mulf (Host.dotGeneral dot_S1x256x32x128_S1x4096x32x128_S1x32x256x4096_3_3_1_1_02_02 none
      (shapeCast S1x256x32x128 (Host.dotGeneral dot_S1x256x1024_S1024x4096_S1x256x4096_2_0_01_1_n_n none x wq) shapeCasts_S1x256x4096_S1x256x32x128) k)
    (broadcastInDim S1x32x256x4096 ![] bcast_S_S1x32x256x4096 (constant S_ .f32 0x3DB504F3#32))
def maskedR (M : IVec S256x4096 1) (s : FVec Ideal S1x32x256x4096 .f32) : FVec Ideal S1x32x256x4096 .f32 :=
  select (broadcastInDim S1x32x256x4096 ![0, 1, 2, 3] bcast_S1x1x256x4096_S1x32x256x4096_0_1_2_3 (broadcastInDim S1x1x256x4096 ![2, 3] bcast_S256x4096_S1x1x256x4096_2_3 M))
    s (broadcastInDim S1x32x256x4096 ![] bcast_S_S1x32x256x4096 (id (constant S_ .f32 0xFF800000#32)))

/-- The exponentials of the masked scores, each row shifted by its greatest entry. -/
def weightsR (s : FVec Ideal S1x32x256x4096 .f32) : FVec Ideal S1x32x256x4096 .f32 :=
  Host.exp (subf s (broadcastInDim S1x32x256x4096 ![0, 1, 2, 3] bcast_S1x32x256x1_S1x32x256x4096_0_1_2_3
    (broadcastInDim S1x32x256x1 ![0, 1, 2] bcast_S1x32x256_S1x32x256x1_0_1_2
      (Host.reduce FloatOps.maximumf s (constant S_ .f32 0xFF800000#32) reducesTo_S1x32x256x4096_S1x32x256_d3 h_S_))))

/-- Which queries see any key. -/
def keepR (M : IVec S256x4096 1) : IVec S256 1 := Host.reduce IntOp.ori M (constantI S_ 1 0#1) reducesTo_S256x4096_S256_d1 h_S_

/-- The normalised weights. -/
def probsR (M : IVec S256x4096 1) (w : FVec Ideal S1x32x256x4096 .f32) : FVec Ideal S1x32x256x4096 .f32 :=
  select (broadcastInDim S1x32x256x4096 ![0, 1, 2, 3] bcast_S1x1x256x1_S1x32x256x4096_0_1_2_3 (broadcastInDim S1x1x256x1 ![2] bcast_S256_S1x1x256x1_2 (keepR M)))
    (Host.divf w (broadcastInDim S1x32x256x4096 ![0, 1, 2, 3] bcast_S1x32x256x1_S1x32x256x4096_0_1_2_3
      (select (broadcastInDim S1x32x256x1 ![0, 1, 2, 3] bcast_S1x1x256x1_S1x32x256x1_0_1_2_3 (broadcastInDim S1x1x256x1 ![2] bcast_S256_S1x1x256x1_2 (keepR M)))
        (broadcastInDim S1x32x256x1 ![0, 1, 2] bcast_S1x32x256_S1x32x256x1_0_1_2
          (Host.reduceAdd w (constant S_ .f32 0x00000000#32) reducesTo_S1x32x256x4096_S1x32x256_d3 h_S_))
        (broadcastInDim S1x32x256x1 ![] bcast_S_S1x32x256x1 (id (constant S_ .f32 0x3F800000#32))))))
    (broadcastInDim S1x32x256x4096 ![] bcast_S_S1x32x256x4096 (id (constant S_ .f32 0x00000000#32)))

/-- The result of weights and values, projected. -/
def outR (p : FVec Ideal S1x32x256x4096 .f32) : FVec Ideal S1x256x1024 .f32 :=
  Host.dotGeneral dot_S1x256x4096_S4096x1024_S1x256x1024_2_0_01_1_n_n none
    (shapeCast S1x256x4096 (transpose S1x256x32x128 [0, 3, 1, 2]
      (Host.dotGeneral dot_S1x4096x32x128_S1x32x256x4096_S1x32x128x256_1_3_3_2_02_01 none v p) transposes_S1x32x128x256_S1x256x32x128_0_3_1_2)
      shapeCasts_S1x256x32x128_S1x256x4096) wo

/-- The reference's result, in these parts. -/
theorem res_eq (m : (ℓ : Loc nD τ sig) → Buf (Elt Ideal) ℓ) (c : Dev nD) :
    Cert.ReferenceIdeal.Value.res_main_v39 m c
      = outR (m ((c.tc : Thread nD τ).loc main_arg3)) (m ((c.tc : Thread nD τ).loc main_arg4))
          (probsR maskR (weightsR (maskedR maskR (scaledR (m ((c.tc : Thread nD τ).loc main_arg0)) (m ((c.tc : Thread nD τ).loc main_arg1))
            (m ((c.tc : Thread nD τ).loc main_arg2)))))) := by
  rfl

/-- The scale of the scores, and the column of a head's coordinate among all the columns. -/
def allCol (h : Fin 32) (e : Fin 128) : Fin 4096 := ⟨h.val * 128 + e.val, by have := h.isLt; have := e.isLt; omega⟩

theorem scaled_at (h : Fin 32) (i : Fin 256) (j : Fin 4096) :
    scaledR x wq k (ix4 0 h i j) = (∑ e : Fin 128, (∑ n : Fin 1024, x (ix3 0 i n) * wq (ix2 n (allCol h e))) * k (ix4 0 j h e))
      * Ideal.ofBits .f32 0x3DB504F3#32 := by
  pointwise [scaledR, allCol]

theorem neg_inf : Ideal.ofBits .f32 0xFF800000#32 = ⊥ := by
  simp [Ideal.ofBits, Ideal.ieee]

theorem masked_at (s : FVec Ideal S1x32x256x4096 .f32) (h : Fin 32) (i : Fin 256) (j : Fin 4096) :
    maskedR maskR s (ix4 0 h i j) = if seen i j then s (ix4 0 h i j) else ⊥ := by
  unfold maskedR
  pointwise
  rw [mask_at]
  by_cases hs : seen i j
  · rw [if_pos hs, if_pos hs]; rfl
  · rw [if_neg hs, if_neg hs]; exact neg_inf

theorem weights_at (s : FVec Ideal S1x32x256x4096 .f32) (h : Fin 32) (i : Fin 256) (j : Fin 4096) :
    weightsR s (ix4 0 h i j) = Ideal.exp (s (ix4 0 h i j) - Finset.univ.fold max (⊥ : EReal) fun t : Fin 4096 => s (ix4 0 h i t)) := by
  unfold weightsR
  pointwise
  rw [neg_inf]

theorem keep_at (i : Fin 256) : keepR maskR (ix1 i) = 1#1 := by
  unfold keepR
  pointwise
  refine (Routing.fold_ori _ _).mpr ⟨⟨64 * (i.val / 64), by have := i.isLt; omega⟩, Finset.mem_univ _, ?_⟩
  rw [mask_at, if_pos]
  show 64 * (i.val / 64) / 64 % 4 = i.val / 64
  have := i.isLt
  omega

theorem probs_at (w : FVec Ideal S1x32x256x4096 .f32) (h : Fin 32) (i : Fin 256) (j : Fin 4096) :
    probsR maskR w (ix4 0 h i j) = Ideal.div (w (ix4 0 h i j)) (∑ t : Fin 4096, w (ix4 0 h i t)) := by
  unfold probsR
  pointwise
  rw [keep_at]
  rfl

theorem out_at (p : FVec Ideal S1x32x256x4096 .f32) (i : Fin 256) (n : Fin 1024) :
    outR v wo p (ix3 0 i n) = ∑ c : Fin 4096, (∑ j : Fin 4096, v (ix4 0 j ⟨c.val / 128, by have := c.isLt; omega⟩ ⟨c.val % 128, Nat.mod_lt _ (by decide)⟩)
      * p (ix4 0 ⟨c.val / 128, by have := c.isLt; omega⟩ i j)) * wo (ix2 c n) := by
  pointwise [outR]

end Cert.KProof

end
-- ==== Proof.Value.lean ====
/-
# `Value`: the kernel's formula and the reference's are the same
-/
module

public import proofs.«01_k».proof.Proof.KVal
public import proofs.«01_k».proof.Proof.RVal

@[expose] public section

set_option maxRecDepth 16384

noncomputable section

namespace Cert.KProof

open Idealize.ShloMosaic Idealize.ShloMosaic.TcCoe
open Cert.KernelIdeal Cert.KernelIdeal.Gen

/-- The position of a device's column (or row) among all of them. -/
def wideIx (c : Fin 4) (n : Fin 1024) : Fin 4096 := ⟨1024 * c.val + n.val, by have := c.isLt; have := n.isLt; omega⟩

/-- A sum over all the columns is the sum over the devices of the sums over their columns. -/
theorem sum_wide (g : Fin 4096 → EReal) : ∑ k, g k = ∑ s : Fin 4, ∑ n : Fin 1024, g (wideIx s n) := by
  rw [← Fintype.sum_prod_type' (fun (s : Fin 4) (n : Fin 1024) => g (wideIx s n))]
  refine (Equiv.sum_comp (finProdFinEquiv (m := 4) (n := 1024)) (fun k : Fin (4 * 1024) => g k)).symm.trans ?_
  refine Finset.sum_congr rfl fun p _ => congrArg g (Fin.ext ?_)
  show p.2.val + 1024 * p.1.val = 1024 * p.1.val + p.2.val
  omega

theorem scl_real : ∃ r : ℝ, scl = (r : EReal) := by
  unfold scl
  simp [Ideal.ofBits, Ideal.ieee, -EReal.coe_mul]

theorem keyRow_inj (ci : Fin 4) : Function.Injective (keyRow ci) := by
  intro a b h
  have e : 64 * (4 * (a.val / 64) + ci.val) + a.val % 64 = 64 * (4 * (b.val / 64) + ci.val) + b.val % 64 := congrArg Fin.val h
  exact Fin.ext (by omega)

variable (m : (ℓ : Loc nD τ sig) → Buf (Elt Ideal) ℓ)
  (x : FVec Ideal S1x256x1024 .f32) (wq : FVec Ideal Cert.ReferenceIdeal.S1024x4096 .f32) (k v : FVec Ideal S1x4096x32x128 .f32)
  (wo : FVec Ideal Cert.ReferenceIdeal.S4096x1024 .f32)

/-- What each device's arguments are of the whole arrays, and which of them are real. -/
structure Parts : Prop where
  x_eq : ∀ c, aX m c = x
  wq_eq : ∀ c i n, aWq m c (ix2 i n) = wq (ix2 i (wideIx c n))
  k_eq : ∀ c, aK m c = k
  v_eq : ∀ c, aV m c = v
  wo_eq : ∀ c i n, aWo m c (ix2 i n) = wo (ix2 (wideIx c i) n)
  x_real : ∀ i, ∃ r : ℝ, (x i : EReal) = r
  wq_real : ∀ c i, ∃ r : ℝ, aWq m c i = r
  k_real : ∀ i, ∃ r : ℝ, (k i : EReal) = r

variable {m x wq k v wo} (H : Parts m x wq k v wo)
include H

theorem q_real (c : Dev nD) (i : Fin 256) (n : Fin 1024) :
    ∃ r : ℝ, (∑ t : Fin 1024, x (ix3 0 i t) * wq (ix2 t (wideIx c n)) : EReal) = r :=
  sum_real _ _ (fun t => H.x_real _) (fun t => by rw [← H.wq_eq]; exact H.wq_real c _)

/-- The kernel's score is the reference's. -/
theorem score_eq (c : Dev nD) (i : Fin 256) (h : Fin 8) (j : Fin 4096) :
    scoreK m c i h j = scaledR x wq k (ix4 0 (headIx c h) i j) := by
  rw [scaled_at]
  unfold scoreK qAt
  rw [H.x_eq, H.k_eq]
  simp only [H.wq_eq]
  have hc : ∀ e : Fin 128, allCol (headIx c h) e = wideIx c (colIx h e) := fun e =>
    Fin.ext (by show (8 * c.val + h.val) * 128 + e.val = 1024 * c.val + (128 * h.val + e.val); omega)
  simp only [hc]
  exact scale_in _ _ (fun e => q_real H c i _) (fun e => H.k_real _) scl scl_real

theorem score_real (c : Dev nD) (i : Fin 256) (h : Fin 8) (j : Fin 4096) :
    ∃ r : ℝ, (scaledR x wq k (ix4 0 (headIx c h) i j) : EReal) = r := by
  rw [← score_eq H]
  unfold scoreK
  refine sum_real _ _ (fun e => ?_) (fun e => by rw [H.k_eq]; exact H.k_real _)
  unfold qAt
  rw [H.x_eq]
  simp only [H.wq_eq]
  obtain ⟨a, ha⟩ := q_real H c i (colIx h e)
  obtain ⟨b, hb⟩ := scl_real
  exact ⟨a * b, by rw [ha, hb, EReal.coe_mul]⟩

/-- The kernel's attention, a head at a row and a column, is the reference's. -/
theorem ctx_eq (c : Dev nD) (i : Fin 256) (n : Fin 1024) :
    ctxK m c i n = ∑ j : Fin 4096, v (ix4 0 j (headIx c ⟨n.val / 128, by have := n.isLt; omega⟩) ⟨n.val % 128, Nat.mod_lt _ (by decide)⟩)
      * probsR maskR (weightsR (maskedR maskR (scaledR x wq k))) (ix4 0 (headIx c ⟨n.val / 128, by have := n.isLt; omega⟩) i j) := by
  generalize hh : (⟨n.val / 128, by have := n.isLt; omega⟩ : Fin 8) = h
  generalize hd : (⟨n.val % 128, Nat.mod_lt _ (by decide)⟩ : Fin 128) = d
  unfold ctxK
  rw [hd_at, hh, hd]
  have hi : qRow ⟨i.val / 64, by have := i.isLt; omega⟩ ⟨i.val % 64, Nat.mod_lt _ (by decide)⟩ = i :=
    Fin.ext (by show 64 * (i.val / 64) + i.val % 64 = i.val; omega)
  simp only [hi, score_eq H, H.v_eq]
  simp only [probs_at, weights_at, masked_at]
  choose r hr using fun j => score_real H c i h j
  refine (attn_eq (seen i) (keyRow ⟨i.val / 64, by have := i.isLt; omega⟩) (keyRow_inj _) (fun t => ?_) (fun j hj => ?_)
    (fun j => scaledR x wq k (ix4 0 (headIx c h) i j)) (fun j => v (ix4 0 j (headIx c h) d)) r hr _ rfl _ rfl).symm
  · show (64 * (4 * (t.val / 64) + i.val / 64) + t.val % 64) / 64 % 4 = i.val / 64
    have := i.isLt
    omega
  · have e : j.val / 64 % 4 = i.val / 64 := hj
    have := j.isLt
    refine ⟨⟨64 * (j.val / 64 / 4) + j.val % 64, by omega⟩, Fin.ext ?_⟩
    show 64 * (4 * ((64 * (j.val / 64 / 4) + j.val % 64) / 64) + i.val / 64) + (64 * (j.val / 64 / 4) + j.val % 64) % 64 = j.val
    omega

/-- **The kernel's result is the reference's**, at every device. -/
theorem value_eq (c : Dev nD) :
    outAt m c = outR v wo (probsR maskR (weightsR (maskedR maskR (scaledR x wq k)))) := by
  funext j
  obtain ⟨a, i, n, rfl⟩ : ∃ (a : Fin 1) (i : Fin 256) (n : Fin 1024), j = ix3 a i n := ⟨j 0, j 1, j 2, eq_ix3 j⟩
  obtain rfl : a = 0 := Subsingleton.elim _ _
  rw [outAt_eq]
  refine Eq.trans ?_ (out_at v wo _ i n).symm
  rw [sum_wide]
  refine Finset.sum_congr rfl fun s _ => ?_
  unfold shareK
  refine Finset.sum_congr rfl fun t _ => ?_
  rw [ctx_eq H, H.wo_eq]
  have hh : headIx s ⟨t.val / 128, by have := t.isLt; omega⟩ = ⟨(wideIx s t).val / 128, by have := (wideIx s t).isLt; omega⟩ :=
    Fin.ext (by show 8 * s.val + t.val / 128 = (1024 * s.val + t.val) / 128; omega)
  have he : (⟨t.val % 128, Nat.mod_lt _ (by decide)⟩ : Fin 128) = ⟨(wideIx s t).val % 128, Nat.mod_lt _ (by decide)⟩ :=
    Fin.ext (by show t.val % 128 = (1024 * s.val + t.val) % 128; omega)
  rw [hh, he]

end Cert.KProof

end
-- ==== Proof.Algebraic.lean ====
/-
# `Algebraic`: over the extended reals, on finite arguments, the kernel computes the reference
-/
module

public import proofs.«01_k».proof.Proof.Frames
public import proofs.«01_k».proof.Proof.Value
public import Idealize.ShloMosaic.Lib.ReduceAll
public import Idealize.ShloMosaic.Lib.Layout

@[expose] public section

set_option maxRecDepth 16384

noncomputable section

namespace Cert.KProof

open Idealize.ShloMosaic Idealize.ShloMosaic.TcCoe Idealize.SL.Sem
open Cert.KernelIdeal Cert.KernelIdeal.Gen

instance preFacts_kernelIdeal : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide

theorem preFacts_referenceIdeal : Cert.Pre_finite_ReferenceIdeal.Facts := by
  constructor <;> decide

/-- What compares as smaller than plus infinity in absolute value is a real number. -/
theorem real_of_lt (a : EReal) (h : Ideal.cmp .olt (max a (-a)) (Ideal.ofBits .f32 0x7F800000#32) = 1#1) : ∃ r : ℝ, a = r := by
  have ht : Ideal.ofBits .f32 0x7F800000#32 = ⊤ := by simp [Ideal.ofBits, Ideal.ieee]
  rw [ht] at h
  induction a using EReal.rec with
  | bot => simp [Ideal.cmp] at h
  | coe r => exact ⟨r, rfl⟩
  | top => simp [Ideal.cmp] at h

/-- What the precondition says: the arrays the scores are made of hold real numbers. -/
theorem pre_real (m : (ℓ : Loc nD τ sig) → Buf (Elt Ideal) ℓ) (hm : Cert.Pre_KernelIdeal_finite_KernelIdeal m) (c : Dev nD) :
    ((∀ i, ∃ r : ℝ, aX m c i = r) ∧ (∀ i, ∃ r : ℝ, aWq m c i = r)) ∧ ∀ i, ∃ r : ℝ, aK m c i = r := by
  haveI : Subsingleton Cert.Pre_finite_KernelIdeal.S_.Idx := ⟨fun a b => funext fun d => d.elim0⟩
  have h := congrFun (hm c) (fun d => d.elim0)
  obtain ⟨h01, h2⟩ := IntOp.andi_eq_one.1 h
  obtain ⟨h0, h1⟩ := IntOp.andi_eq_one.1 h01
  exact ⟨⟨fun i => real_of_lt _ (Host.reduce_andi_all _ _ _ _ _ h0 i), fun i => real_of_lt _ (Host.reduce_andi_all _ _ _ _ _ h1 i)⟩,
    fun i => real_of_lt _ (Host.reduce_andi_all _ _ _ _ _ h2 i)⟩

section Cut

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's device. -/
abbrev refTc : Thread Cert.ReferenceIdeal.nD Cert.ReferenceIdeal.τ := (0 : Dev Cert.ReferenceIdeal.nD).tc

/-- The kernel's arguments are the reference's: three whole on every device, the two weights cut. -/
abbrev CutArgs : Prop := ∀ c : Dev nD,
  m ((c.tc : Thread nD τ).loc main_arg0) = m' (refTc.loc Cert.ReferenceIdeal.main_arg0)
    ∧ m ((c.tc : Thread nD τ).loc main_arg1) = Layout.block ⟨2, ![1024, 1024]⟩ ⟨2, ![1024, 4096]⟩ 1 4 c (m' (refTc.loc Cert.ReferenceIdeal.main_arg1))
    ∧ m ((c.tc : Thread nD τ).loc main_arg2) = m' (refTc.loc Cert.ReferenceIdeal.main_arg2)
    ∧ m ((c.tc : Thread nD τ).loc main_arg3) = m' (refTc.loc Cert.ReferenceIdeal.main_arg3)
    ∧ m ((c.tc : Thread nD τ).loc main_arg4) = Layout.block ⟨2, ![1024, 1024]⟩ ⟨2, ![4096, 1024]⟩ 0 4 c (m' (refTc.loc Cert.ReferenceIdeal.main_arg4))

variable {m m'}

theorem parts_of_cut (hm : Cert.Pre_KernelIdeal_finite_KernelIdeal m) (hc : CutArgs m m') :
    Parts m (m' (refTc.loc Cert.ReferenceIdeal.main_arg0)) (m' (refTc.loc Cert.ReferenceIdeal.main_arg1))
      (m' (refTc.loc Cert.ReferenceIdeal.main_arg2)) (m' (refTc.loc Cert.ReferenceIdeal.main_arg3))
      (m' (refTc.loc Cert.ReferenceIdeal.main_arg4)) where
  x_eq c := (hc c).1
  wq_eq c i n := by
    refine (congrFun (hc c).2.1 (ix2 i n)).trans (congrArg (m' (refTc.loc Cert.ReferenceIdeal.main_arg1)) ?_)
    funext d
    match d with
    | ⟨0, _⟩ => rfl
    | ⟨1, _⟩ => exact Fin.ext (show c.val * 1024 + n.val = 1024 * c.val + n.val by omega)
  k_eq c := (hc c).2.2.1
  v_eq c := (hc c).2.2.2.1
  wo_eq c i n := by
    refine (congrFun (hc c).2.2.2.2 (ix2 i n)).trans (congrArg (m' (refTc.loc Cert.ReferenceIdeal.main_arg4)) ?_)
    funext d
    match d with
    | ⟨0, _⟩ => exact Fin.ext (show c.val * 1024 + i.val = 1024 * c.val + i.val by omega)
    | ⟨1, _⟩ => rfl
  x_real i := by
    obtain ⟨r, hr⟩ := (pre_real m hm 0).1.1 i
    exact ⟨r, (congrFun (hc 0).1 i).symm.trans hr⟩
  wq_real c := (pre_real m hm c).1.2
  k_real i := by
    obtain ⟨r, hr⟩ := (pre_real m hm 0).2 i
    exact ⟨r, (congrFun (hc 0).2.2.1 i).symm.trans hr⟩

/-- Every device ends with the reference's value. -/
theorem finalA_value (hm : Cert.Pre_KernelIdeal_finite_KernelIdeal m) (hc : CutArgs m m') (c : Dev nD) :
    finalA m c 3 = Cert.ReferenceIdeal.Value.res_main_v39 m' 0 :=
  (finalA_out m c).trans ((value_eq (parts_of_cut hm hc) c).trans (res_eq m' 0).symm)

end Cut

theorem algebraic_kernel : Cert.algebraic_KernelIdeal_ReferenceIdeal_pre_finite_KernelIdeal := fun m g m' g' hm hc =>
  ⟨Cert.ReferenceIdeal.Value.res_main_v39 m' 0,
    (θ_run Cert.KernelIdeal.defs _ _).mono (fun _ h c => ⟨(h.1 c).1.trans (finalA_value hm hc c), (h.1 c).2⟩) (run_kept (F := Ideal) m g),
    (θ_run Cert.ReferenceIdeal.defs _ _).mono (fun _ h => h 0) (Cert.ReferenceIdeal.Value.run (F := Ideal) m' g')⟩

end Cert.KProof

end
-- ==== Proof.lean ====
/-
# The certificate's claims, put together
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.KProof.preFacts_kernelIdeal, Cert.KProof.preFacts_referenceIdeal,
    Cert.KProof.frame_kernel, Cert.KProof.frame_kernelIdeal, fun m g _ => Cert.KProof.frame_kernelIdeal m g trivial,
    Cert.KProof.frame_referenceIdeal, fun m g _ => Cert.KProof.frame_referenceIdeal m g trivial,
    trivial, Cert.KProof.algebraic_kernel⟩

end Cert.Proof

end
